-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tokens [hPre_finite_tokens : Cert.Pre_finite_tokens.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).1 = (fun _ => 1#1)
    ∧ (Cert.Pre_finite_tokens.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tokens [hPre_finite_tokens : Cert.Pre_finite_tokens.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).1 = (fun _ => 1#1)
    ∧ (Cert.Pre_finite_tokens.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))).2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_tokens [hKernelIdeal : Cert.KernelIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tokens m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_tokens [hReferenceIdeal : Cert.ReferenceIdeal.Facts] [hPre_finite_tokens : Cert.Pre_finite_tokens.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tokens m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_finite_tokens [hKernelIdeal : Cert.KernelIdeal.Facts] [hReferenceIdeal : Cert.ReferenceIdeal.Facts] [hPre_finite_tokens : Cert.Pre_finite_tokens.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tokens m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v8_0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v12)) (v3 : (c : Dev Cert.KernelIdeal.nD) → Buf (Elt Ideal) ((c.tc : Thread Cert.KernelIdeal.nD Cert.KernelIdeal.τ).loc Cert.KernelIdeal.main_v13)) (v4 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v12) = v2 c
          ∧ r.2.mem ((c.tc : Thread Cert.KernelIdeal.nD Cert.KernelIdeal.τ).loc Cert.KernelIdeal.main_v13) = v3 c
          ∧ r.2.mem ((c.tc : Thread Cert.KernelIdeal.nD Cert.KernelIdeal.τ).loc Cert.KernelIdeal.main_v16) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v45) = v0 c
          ∧ r.2.mem ((c.tc : Thread Cert.ReferenceIdeal.nD Cert.ReferenceIdeal.τ).loc Cert.ReferenceIdeal.main_v0_0) = v1 c
          ∧ r.2.mem ((c.tc : Thread Cert.ReferenceIdeal.nD Cert.ReferenceIdeal.τ).loc Cert.ReferenceIdeal.main_v0_1) = v2 c
          ∧ r.2.mem ((c.tc : Thread Cert.ReferenceIdeal.nD Cert.ReferenceIdeal.τ).loc Cert.ReferenceIdeal.main_v0_2) = v3 c
          ∧ r.2.mem ((c.tc : Thread Cert.ReferenceIdeal.nD Cert.ReferenceIdeal.τ).loc Cert.ReferenceIdeal.main_v0_3) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_tokens : Cert.Pre_finite_tokens.Facts),
    quiescent_Kernel (hKernel := hKernel)
    ∧ quiescent_KernelIdeal (hKernelIdeal := hKernelIdeal)
    ∧ quiescent_KernelIdeal_pre_finite_tokens (hKernelIdeal := hKernelIdeal) (hPre_finite_tokens := hPre_finite_tokens)
    ∧ quiescent_ReferenceIdeal (hReferenceIdeal := hReferenceIdeal)
    ∧ quiescent_ReferenceIdeal_pre_finite_tokens (hReferenceIdeal := hReferenceIdeal) (hPre_finite_tokens := hPre_finite_tokens)
    ∧ preserves_Kernel_KernelIdeal
    ∧ algebraic_KernelIdeal_ReferenceIdeal_pre_finite_tokens (hKernelIdeal := hKernelIdeal) (hReferenceIdeal := hReferenceIdeal) (hPre_finite_tokens := hPre_finite_tokens)
-- ==== Pre_finite_tokens.lean ====
abbrev S32x16x32x128 : Shape := ⟨4, ![32, 16, 32, 128]⟩
abbrev S32x16x2x128 : Shape := ⟨4, ![32, 16, 2, 128]⟩
abbrev S32x4096x2x128 : Shape := ⟨4, ![32, 4096, 2, 128]⟩
abbrev S32x4096x2 : Shape := ⟨3, ![32, 4096, 2]⟩
abbrev S32 : Shape := ⟨1, ![32]⟩
abbrev S16x16 : Shape := ⟨2, ![16, 16]⟩
abbrev S_ : Shape := ⟨0, ![]⟩

class Facts : Prop where
  bcast_S_S32x16x2x128 : S_.BroadcastsInDim S32x16x2x128 (![] : Fin 0 → Fin S32x16x2x128.rank)

variable [Facts]

def fn {F : FTy → Type} [FloatOps F] (main_arg0 : FVec F S32x16x32x128 .bf16) (main_arg1 : FVec F S32x16x2x128 .bf16) (main_arg2 : FVec F S32x16x2x128 .bf16) (main_arg3 : FVec F S32x4096x2x128 .fp8e4m3) (main_arg4 : FVec F S32x4096x2 .f32) (main_arg5 : FVec F S32x4096x2x128 .fp8e4m3) (main_arg6 : FVec F S32x4096x2 .f32) (main_arg7 : IVec S32 32) (main_arg8 : IVec S16x16 1) : IVec S32x16x2x128 1 × IVec S32x16x2x128 1 :=
  let main_v0 : FVec F S32x16x2x128 .bf16 := Host.absf main_arg1
  let main_cst : FVec F S_ .bf16 := constant S_ .bf16 0x7F7F#16
  let main_v1 : FVec F S32x16x2x128 .bf16 := broadcastInDim S32x16x2x128 ![] bcast_S_S32x16x2x128 main_cst
  let main_v2 : IVec S32x16x2x128 1 := cmpf .ole main_v0 main_v1
  let main_v3 : FVec F S32x16x2x128 .bf16 := Host.absf main_arg2
  let main_cst_0 : FVec F S_ .bf16 := constant S_ .bf16 0x7F7F#16
  let main_v4 : FVec F S32x16x2x128 .bf16 := broadcastInDim S32x16x2x128 ![] bcast_S_S32x16x2x128 main_cst_0
  let main_v5 : IVec S32x16x2x128 1 := cmpf .ole main_v3 main_v4
  (main_v2, main_v5)
-- ==== Kernel.lean ====
abbrev S32x16x32x128 : Shape := ⟨4, ![32, 16, 32, 128]⟩
abbrev S32x16x2x128 : Shape := ⟨4, ![32, 16, 2, 128]⟩
abbrev S32x4096x2x128 : Shape := ⟨4, ![32, 4096, 2, 128]⟩
abbrev S32x4096x2 : Shape := ⟨3, ![32, 4096, 2]⟩
abbrev S32 : Shape := ⟨1, ![32]⟩
abbrev S16x16 : Shape := ⟨2, ![16, 16]⟩
abbrev S32x2x4096x128 : Shape := ⟨4, ![32, 2, 4096, 128]⟩
abbrev S32x2x4096 : Shape := ⟨3, ![32, 2, 4096]⟩
abbrev S16x16x16 : Shape := ⟨3, ![16, 16, 16]⟩
abbrev S16x256 : Shape := ⟨2, ![16, 256]⟩
abbrev S32x2x16x128 : Shape := ⟨4, ![32, 2, 16, 128]⟩
abbrev S1x16x32x128 : Shape := ⟨4, ![1, 16, 32, 128]⟩
abbrev S1x16x2x128 : Shape := ⟨4, ![1, 16, 2, 128]⟩
abbrev S1x2x512x128 : Shape := ⟨4, ![1, 2, 512, 128]⟩
abbrev S1 : Shape := ⟨1, ![1]⟩
abbrev S1x2x512 : Shape := ⟨3, ![1, 2, 512]⟩
abbrev S1x2x16x128 : Shape := ⟨4, ![1, 2, 16, 128]⟩
abbrev S2x1x256 : Shape := ⟨3, ![2, 1, 256]⟩
abbrev S2x128x256 : Shape := ⟨3, ![2, 128, 256]⟩
abbrev S2x16x256 : Shape := ⟨3, ![2, 16, 256]⟩
abbrev S2x16x128 : Shape := ⟨3, ![2, 16, 128]⟩
abbrev S1x16x1x128 : Shape := ⟨4, ![1, 16, 1, 128]⟩
abbrev S16x128 : Shape := ⟨2, ![16, 128]⟩
abbrev S16 : Shape := ⟨1, ![16]⟩
abbrev S16x1 : Shape := ⟨2, ![16, 1]⟩
abbrev S1x1x16x128 : Shape := ⟨4, ![1, 1, 16, 128]⟩
abbrev S1x16x128 : Shape := ⟨3, ![1, 16, 128]⟩
abbrev S1x16x16x128 : Shape := ⟨4, ![1, 16, 16, 128]⟩
abbrev S16x16x128 : Shape := ⟨3, ![16, 16, 128]⟩
abbrev S256x128 : Shape := ⟨2, ![256, 128]⟩
abbrev S1x16x256 : Shape := ⟨3, ![1, 16, 256]⟩
abbrev S256 : Shape := ⟨1, ![256]⟩
abbrev S1x256 : Shape := ⟨2, ![1, 256]⟩
abbrev S1x1x256 : Shape := ⟨3, ![1, 1, 256]⟩
abbrev S1x1x512 : Shape := ⟨3, ![1, 1, 512]⟩
abbrev S1x512 : Shape := ⟨2, ![1, 512]⟩
abbrev S128x512 : Shape := ⟨2, ![128, 512]⟩
abbrev S512x128 : Shape := ⟨2, ![512, 128]⟩
abbrev S1x1x512x128 : Shape := ⟨4, ![1, 1, 512, 128]⟩
abbrev S512x256 : Shape := ⟨2, ![512, 256]⟩
abbrev S1x128x256 : Shape := ⟨3, ![1, 128, 256]⟩
abbrev S128x256 : Shape := ⟨2, ![128, 256]⟩
abbrev S32x2x16x1 : Shape := ⟨4, ![32, 2, 16, 1]⟩
abbrev S32x2x16 : Shape := ⟨3, ![32, 2, 16]⟩
abbrev S32x16x2 : Shape := ⟨3, ![32, 16, 2]⟩

abbrev nBuf : Space → Nat
  | .hbm => 29
  | .vmem => 30
  | .smem => 1
  | _ => 0

abbrev bufTy : (tb : Table) → Fin (tcTables nBuf tb) → BufTy
  | .hbm, ⟨0, _⟩ => ⟨S32x16x32x128, .bf16⟩
  | .hbm, ⟨1, _⟩ => ⟨S32x16x2x128, .bf16⟩
  | .hbm, ⟨2, _⟩ => ⟨S32x16x2x128, .bf16⟩
  | .hbm, ⟨3, _⟩ => ⟨S32x4096x2x128, .fp8e4m3⟩
  | .hbm, ⟨4, _⟩ => ⟨S32x4096x2, .f32⟩
  | .hbm, ⟨5, _⟩ => ⟨S32x4096x2x128, .fp8e4m3⟩
  | .hbm, ⟨6, _⟩ => ⟨S32x4096x2, .f32⟩
  | .hbm, ⟨7, _⟩ => ⟨S16x16, .i1⟩
  | .hbm, ⟨8, _⟩ => ⟨S32x2x4096x128, .fp8e4m3⟩
  | .hbm, ⟨9, _⟩ => ⟨S32x2x4096x128, .fp8e4m3⟩
  | .hbm, ⟨10, _⟩ => ⟨S32x2x4096, .f32⟩
  | .hbm, ⟨11, _⟩ => ⟨S32x2x4096, .f32⟩
  | .hbm, ⟨12, _⟩ => ⟨S16x16, .i1⟩
  | .hbm, ⟨13, _⟩ => ⟨S16x16, .f32⟩
  | .hbm, ⟨14, _⟩ => ⟨S16x16x16, .f32⟩
  | .hbm, ⟨15, _⟩ => ⟨S16x256, .f32⟩
  | .hbm, ⟨16, _⟩ => ⟨S32x16x32x128, .bf16⟩
  | .hbm, ⟨17, _⟩ => ⟨S32x2x16x128, .fp8e4m3⟩
  | .hbm, ⟨18, _⟩ => ⟨S32x2x16x128, .f32⟩
  | .hbm, ⟨19, _⟩ => ⟨S32x2x16x128, .fp8e4m3⟩
  | .hbm, ⟨20, _⟩ => ⟨S32x2x16x128, .f32⟩
  | .hbm, ⟨21, _⟩ => ⟨S32x16x2x128, .fp8e4m3⟩
  | .hbm, ⟨22, _⟩ => ⟨S32x2x16x1, .f32⟩
  | .hbm, ⟨23, _⟩ => ⟨S32x2x16, .f32⟩
  | .hbm, ⟨24, _⟩ => ⟨S32x16x2, .f32⟩
  | .hbm, ⟨25, _⟩ => ⟨S32x16x2x128, .fp8e4m3⟩
  | .hbm, ⟨26, _⟩ => ⟨S32x2x16x1, .f32⟩
  | .hbm, ⟨27, _⟩ => ⟨S32x2x16, .f32⟩
  | .hbm, ⟨28, _⟩ => ⟨S32x16x2, .f32⟩
  | .local _ .vmem, ⟨0, _⟩ => ⟨S1x16x32x128, .bf16⟩
  | .local _ .vmem, ⟨1, _⟩ => ⟨S1x16x32x128, .bf16⟩
  | .local _ .vmem, ⟨2, _⟩ => ⟨S1x16x2x128, .bf16⟩
  | .local _ .vmem, ⟨3, _⟩ => ⟨S1x16x2x128, .bf16⟩
  | .local _ .vmem, ⟨4, _⟩ => ⟨S1x16x2x128, .bf16⟩
  | .local _ .vmem, ⟨5, _⟩ => ⟨S1x16x2x128, .bf16⟩
  | .local _ .vmem, ⟨6, _⟩ => ⟨S1x2x512x128, .fp8e4m3⟩
  | .local _ .vmem, ⟨7, _⟩ => ⟨S1x2x512x128, .fp8e4m3⟩
  | .local _ .vmem, ⟨8, _⟩ => ⟨S1x2x512, .f32⟩
  | .local _ .vmem, ⟨9, _⟩ => ⟨S1x2x512, .f32⟩
  | .local _ .vmem, ⟨10, _⟩ => ⟨S1x2x512x128, .fp8e4m3⟩
  | .local _ .vmem, ⟨11, _⟩ => ⟨S1x2x512x128, .fp8e4m3⟩
  | .local _ .vmem, ⟨12, _⟩ => ⟨S1x2x512, .f32⟩
  | .local _ .vmem, ⟨13, _⟩ => ⟨S1x2x512, .f32⟩
  | .local _ .vmem, ⟨14, _⟩ => ⟨S16x256, .f32⟩
  | .local _ .vmem, ⟨15, _⟩ => ⟨S1x16x32x128, .bf16⟩
  | .local _ .vmem, ⟨16, _⟩ => ⟨S1x16x32x128, .bf16⟩
  | .local _ .vmem, ⟨17, _⟩ => ⟨S1x2x16x128, .fp8e4m3⟩
  | .local _ .vmem, ⟨18, _⟩ => ⟨S1x2x16x128, .fp8e4m3⟩
  | .local _ .vmem, ⟨19, _⟩ => ⟨S1x2x16x128, .f32⟩
  | .local _ .vmem, ⟨20, _⟩ => ⟨S1x2x16x128, .f32⟩
  | .local _ .vmem, ⟨21, _⟩ => ⟨S1x2x16x128, .fp8e4m3⟩
  | .local _ .vmem, ⟨22, _⟩ => ⟨S1x2x16x128, .fp8e4m3⟩
  | .local _ .vmem, ⟨23, _⟩ => ⟨S1x2x16x128, .f32⟩
  | .local _ .vmem, ⟨24, _⟩ => ⟨S1x2x16x128, .f32⟩
  | .local _ .vmem, ⟨25, _⟩ => ⟨S2x1x256, .f32⟩
  | .local _ .vmem, ⟨26, _⟩ => ⟨S2x1x256, .f32⟩
  | .local _ .vmem, ⟨27, _⟩ => ⟨S2x128x256, .f32⟩
  | .local _ .vmem, ⟨28, _⟩ => ⟨S2x16x256, .f32⟩
  | .local _ .vmem, ⟨29, _⟩ => ⟨S2x16x128, .bf16⟩
  | .local _ .smem, ⟨0, _⟩ => ⟨S32, .i32⟩
  | _, _ => ⟨S32x16x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | _, _ => false

abbrev semScoped : Fin 0 → Bool
  | ⟨_, h⟩ => absurd h (Nat.not_lt_zero _)

abbrev dmaSemScoped : Fin 25 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | _ => false

abbrev sig : RefSig :=
  ofTc nBuf bufTy 0 25 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg8 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8_0 : Ref sig .tc := ⟨.hbm, 16, rfl⟩
abbrev main_v8_1 : Ref sig .tc := ⟨.hbm, 17, rfl⟩
abbrev main_v8_2 : Ref sig .tc := ⟨.hbm, 18, rfl⟩
abbrev main_v8_3 : Ref sig .tc := ⟨.hbm, 19, rfl⟩
abbrev main_v8_4 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_arg7 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg8_1 : Ref sig .tc := ⟨.vmem, 16, rfl⟩
abbrev cc0_stg9_0 : Ref sig .tc := ⟨.vmem, 17, rfl⟩
abbrev cc0_stg9_1 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_stg11_1 : Ref sig .tc := ⟨.vmem, 22, rfl⟩
abbrev cc0_stg12_0 : Ref sig .tc := ⟨.vmem, 23, rfl⟩
abbrev cc0_stg12_1 : Ref sig .tc := ⟨.vmem, 24, rfl⟩
abbrev cc0_scratch0 : Ref sig .tc := ⟨.vmem, 25, rfl⟩
abbrev cc0_scratch1 : Ref sig .tc := ⟨.vmem, 26, rfl⟩
abbrev cc0_scratch2 : Ref sig .tc := ⟨.vmem, 27, rfl⟩
abbrev cc0_scratch3 : Ref sig .tc := ⟨.vmem, 28, rfl⟩
abbrev cc0_scratch4 : Ref sig .tc := ⟨.vmem, 29, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem8_1 : DmaSem sig := 16
abbrev cc0_sem9_0 : DmaSem sig := 17
abbrev cc0_sem9_1 : DmaSem sig := 18
abbrev cc0_sem10_0 : DmaSem sig := 19
abbrev cc0_sem10_1 : DmaSem sig := 20
abbrev cc0_sem11_0 : DmaSem sig := 21
abbrev cc0_sem11_1 : DmaSem sig := 22
abbrev cc0_sem12_0 : DmaSem sig := 23
abbrev cc0_sem12_1 : DmaSem sig := 24

abbrev nD : Nat := 1
abbrev τ : Topo := Topo.v7x

variable {F : FTy → Type} [FloatOps F]

abbrev grid0 : Pipeline.Grid := ⟨2, ![32, 8], ![false, false]⟩

abbrev pre0 : Pipeline.Prefetch sig := ⟨1, ![main_arg7.idx], fun | 0 => main_arg7.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond3 (i : grid0.Coords) : BitVec 1 :=
  let arg1 : BitVec 32 := BitVec.ofNat 32 (i 1).val
  let c7_i32 : BitVec 32 := 7#32
  let v9 : BitVec 1 := Scalar.cmpi .eq arg1 c7_i32
  let v10 : BitVec 32 := Scalar.extui v9
  let c0_i32_2 : BitVec 32 := 0#32
  let v11 : BitVec 1 := Scalar.cmpi .ne v10 c0_i32_2
  v11

def k0_cond1 (i : grid0.Coords) : BitVec 1 :=
  let arg1 : BitVec 32 := BitVec.ofNat 32 (i 1).val
  let c0_i32 : BitVec 32 := 0#32
  let v2 : BitVec 1 := Scalar.cmpi .eq arg1 c0_i32
  let v3 : BitVec 32 := Scalar.extui v2
  let c0_i32_0 : BitVec 32 := 0#32
  let v4 : BitVec 1 := Scalar.cmpi .ne v3 c0_i32_0
  v4

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c1_i32 : BitVec 32 := 1#32
  let v2 : BitVec 32 := Scalar.subi v1 c1_i32
  let c9_i32 : BitVec 32 := 9#32
  let v3 : BitVec 32 := Scalar.shrui v2 c9_i32
  let v4 : BitVec 32 := Scalar.minsi arg1 v3
  let c0_i32 : BitVec 32 := 0#32
  let c0_i32_0 : BitVec 32 := 0#32
  let c0_i32_1 : BitVec 32 := 0#32
  ![arg0.toNat, c0_i32.toNat, v4.toNat, c0_i32_0.toNat]

def cc0_transform_4 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c1_i32 : BitVec 32 := 1#32
  let v2 : BitVec 32 := Scalar.subi v1 c1_i32
  let c9_i32 : BitVec 32 := 9#32
  let v3 : BitVec 32 := Scalar.shrui v2 c9_i32
  let v4 : BitVec 32 := Scalar.minsi arg1 v3
  let c0_i32 : BitVec 32 := 0#32
  let c0_i32_0 : BitVec 32 := 0#32
  ![arg0.toNat, c0_i32.toNat, v4.toNat]

def cc0_transform_5 (k0_off1_inb : ∀ i : grid0.Coords, ∀ a, (k0_off1 i) a + S1.size a ≤ S32.size a) (numel1_S1 : S1.numel = 1) (pf : pre0.Contents (Elt F)) (i : grid0.Coords) : Fin 4 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c1_i32 : BitVec 32 := 1#32
  let v2 : BitVec 32 := Scalar.subi v1 c1_i32
  let c9_i32 : BitVec 32 := 9#32
  let v3 : BitVec 32 := Scalar.shrui v2 c9_i32
  let v4 : BitVec 32 := Scalar.minsi arg1 v3
  let c0_i32 : BitVec 32 := 0#32
  let c0_i32_0 : BitVec 32 := 0#32
  let c0_i32_1 : BitVec 32 := 0#32
  ![arg0.toNat, c0_i32.toNat, v4.toNat, c0_i32_0.toNat]

def cc0_transform_6 (k0_off1_inb : ∀ i : grid0.Coords, ∀ a, (k0_off1 i) a + S1.size a ≤ S32.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S32) ![v0.toNat] S1.size (k0_off1_inb i)) numel1_S1
  let c1_i32 : BitVec 32 := 1#32
  let v2 : BitVec 32 := Scalar.subi v1 c1_i32
  let c9_i32 : BitVec 32 := 9#32
  let v3 : BitVec 32 := Scalar.shrui v2 c9_i32
  let v4 : BitVec 32 := Scalar.minsi arg1 v3
  let c0_i32 : BitVec 32 := 0#32
  let c0_i32_0 : BitVec 32 := 0#32
  ![arg0.toNat, c0_i32.toNat, v4.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_10 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_12 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x16x32x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x16x2x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x16x2x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x2x512x128 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x2x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x2x512x128 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x2x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 1 → Memref sig .tc .vmem S16x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 2 → Memref sig .tc .vmem S1x16x32x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S1x2x16x128 .fp8e4m3 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, false]

abbrev stage0_10 : Fin 2 → Memref sig .tc .vmem S1x2x16x128 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S1x2x16x128 .fp8e4m3 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]

abbrev stage0_12 : Fin 2 → Memref sig .tc .vmem S1x2x16x128 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, false]
-- ==== ReferenceIdeal.lean ====
abbrev S32x16x32x128 : Shape := ⟨4, ![32, 16, 32, 128]⟩
abbrev S32x16x2x128 : Shape := ⟨4, ![32, 16, 2, 128]⟩
abbrev S32x4096x2x128 : Shape := ⟨4, ![32, 4096, 2, 128]⟩
abbrev S32x4096x2 : Shape := ⟨3, ![32, 4096, 2]⟩
abbrev S32 : Shape := ⟨1, ![32]⟩
abbrev S16x16 : Shape := ⟨2, ![16, 16]⟩
abbrev S32x16x2 : Shape := ⟨3, ![32, 16, 2]⟩
abbrev S32x16x2x1 : Shape := ⟨4, ![32, 16, 2, 1]⟩
abbrev S32x4096x2x1 : Shape := ⟨4, ![32, 4096, 2, 1]⟩
abbrev S32x16x2x16x128 : Shape := ⟨5, ![32, 16, 2, 16, 128]⟩
abbrev S32x2x16x16x4096 : Shape := ⟨5, ![32, 2, 16, 16, 4096]⟩
abbrev S_ : Shape := ⟨0, ![]⟩
abbrev S4096 : Shape := ⟨1, ![4096]⟩
abbrev S1x4096 : Shape := ⟨2, ![1, 4096]⟩
abbrev S32x1 : Shape := ⟨2, ![32, 1]⟩
abbrev S32x4096 : Shape := ⟨2, ![32, 4096]⟩
abbrev S32x1x1x1x4096 : Shape := ⟨5, ![32, 1, 1, 1, 4096]⟩
abbrev S32x2x16x16x16 : Shape := ⟨5, ![32, 2, 16, 16, 16]⟩
abbrev S1x1x16x1x16 : Shape := ⟨5, ![1, 1, 16, 1, 16]⟩
abbrev S32x2x16x16 : Shape := ⟨4, ![32, 2, 16, 16]⟩
abbrev S32x2x16x16x1 : Shape := ⟨5, ![32, 2, 16, 16, 1]⟩
abbrev S32x2x128x16x16 : Shape := ⟨5, ![32, 2, 128, 16, 16]⟩
abbrev S32x16x2x16x1 : Shape := ⟨5, ![32, 16, 2, 16, 1]⟩

abbrev nBuf : Space → Nat
  | .hbm => 76
  | .vmem => 14
  | .smem => 0
  | _ => 0

abbrev bufTy : (tb : Table) → Fin (tcTables nBuf tb) → BufTy
  | .hbm, ⟨0, _⟩ => ⟨S32x16x32x128, .bf16⟩
  | .hbm, ⟨1, _⟩ => ⟨S32x16x2x128, .bf16⟩
  | .hbm, ⟨2, _⟩ => ⟨S32x16x2x128, .bf16⟩
  | .hbm, ⟨3, _⟩ => ⟨S32x4096x2x128, .fp8e4m3⟩
  | .hbm, ⟨4, _⟩ => ⟨S32x4096x2, .f32⟩
  | .hbm, ⟨5, _⟩ => ⟨S32x4096x2x128, .fp8e4m3⟩
  | .hbm, ⟨6, _⟩ => ⟨S32x4096x2, .f32⟩
  | .hbm, ⟨7, _⟩ => ⟨S32, .i32⟩
  | .hbm, ⟨8, _⟩ => ⟨S16x16, .i1⟩
  | .hbm, ⟨9, _⟩ => ⟨S32x16x2x128, .fp8e4m3⟩
  | .hbm, ⟨10, _⟩ => ⟨S32x16x2, .f32⟩
  | .hbm, ⟨11, _⟩ => ⟨S32x16x2x128, .fp8e4m3⟩
  | .hbm, ⟨12, _⟩ => ⟨S32x16x2, .f32⟩
  | .hbm, ⟨13, _⟩ => ⟨S32x4096x2x128, .bf16⟩
  | .hbm, ⟨14, _⟩ => ⟨S32x4096x2x128, .bf16⟩
  | .hbm, ⟨15, _⟩ => ⟨S32x16x2x128, .bf16⟩
  | .hbm, ⟨16, _⟩ => ⟨S32x16x2x128, .bf16⟩
  | .hbm, ⟨17, _⟩ => ⟨S32x16x2x16x128, .bf16⟩
  | .hbm, ⟨18, _⟩ => ⟨S32x2x16x16x4096, .f32⟩
  | .hbm, ⟨19, _⟩ => ⟨S_, .f32⟩
  | .hbm, ⟨20, _⟩ => ⟨S32x2x16x16x4096, .f32⟩
  | .hbm, ⟨21, _⟩ => ⟨S32x2x16x16x4096, .f32⟩
  | .hbm, ⟨22, _⟩ => ⟨S4096, .i32⟩
  | .hbm, ⟨23, _⟩ => ⟨S1x4096, .i32⟩
  | .hbm, ⟨24, _⟩ => ⟨S32x1, .i32⟩
  | .hbm, ⟨25, _⟩ => ⟨S32x4096, .i32⟩
  | .hbm, ⟨26, _⟩ => ⟨S32x4096, .i32⟩
  | .hbm, ⟨27, _⟩ => ⟨S32x4096, .i1⟩
  | .hbm, ⟨28, _⟩ => ⟨S32x1x1x1x4096, .i1⟩
  | .hbm, ⟨29, _⟩ => ⟨S_, .f32⟩
  | .hbm, ⟨30, _⟩ => ⟨S_, .f32⟩
  | .hbm, ⟨31, _⟩ => ⟨S32x2x16x16x4096, .i1⟩
  | .hbm, ⟨32, _⟩ => ⟨S32x2x16x16x4096, .f32⟩
  | .hbm, ⟨33, _⟩ => ⟨S32x2x16x16x4096, .f32⟩
  | .hbm, ⟨34, _⟩ => ⟨S32x2x16x16x16, .f32⟩
  | .hbm, ⟨35, _⟩ => ⟨S_, .f32⟩
  | .hbm, ⟨36, _⟩ => ⟨S32x2x16x16x16, .f32⟩
  | .hbm, ⟨37, _⟩ => ⟨S32x2x16x16x16, .f32⟩
  | .hbm, ⟨38, _⟩ => ⟨S1x1x16x1x16, .i1⟩
  | .hbm, ⟨39, _⟩ => ⟨S_, .f32⟩
  | .hbm, ⟨40, _⟩ => ⟨S_, .f32⟩
  | .hbm, ⟨41, _⟩ => ⟨S32x2x16x16x16, .i1⟩
  | .hbm, ⟨42, _⟩ => ⟨S32x2x16x16x16, .f32⟩
  | .hbm, ⟨43, _⟩ => ⟨S32x2x16x16x16, .f32⟩
  | .hbm, ⟨44, _⟩ => ⟨S_, .f32⟩
  | .hbm, ⟨45, _⟩ => ⟨S32x2x16x16, .f32⟩
  | .hbm, ⟨46, _⟩ => ⟨S32x2x16x16x1, .f32⟩
  | .hbm, ⟨47, _⟩ => ⟨S_, .f32⟩
  | .hbm, ⟨48, _⟩ => ⟨S32x2x16x16, .f32⟩
  | .hbm, ⟨49, _⟩ => ⟨S32x2x16x16x1, .f32⟩
  | .hbm, ⟨50, _⟩ => ⟨S32x2x16x16x1, .f32⟩
  | .hbm, ⟨51, _⟩ => ⟨S32x2x16x16x4096, .f32⟩
  | .hbm, ⟨52, _⟩ => ⟨S32x2x16x16x4096, .f32⟩
  | .hbm, ⟨53, _⟩ => ⟨S32x2x16x16x4096, .f32⟩
  | .hbm, ⟨54, _⟩ => ⟨S32x2x16x16x16, .f32⟩
  | .hbm, ⟨55, _⟩ => ⟨S32x2x16x16x16, .f32⟩
  | .hbm, ⟨56, _⟩ => ⟨S32x2x16x16x16, .f32⟩
  | .hbm, ⟨57, _⟩ => ⟨S_, .f32⟩
  | .hbm, ⟨58, _⟩ => ⟨S32x2x16x16, .f32⟩
  | .hbm, ⟨59, _⟩ => ⟨S32x2x16x16x1, .f32⟩
  | .hbm, ⟨60, _⟩ => ⟨S_, .f32⟩
  | .hbm, ⟨61, _⟩ => ⟨S32x2x16x16, .f32⟩
  | .hbm, ⟨62, _⟩ => ⟨S32x2x16x16x1, .f32⟩
  | .hbm, ⟨63, _⟩ => ⟨S32x2x16x16x1, .f32⟩
  | .hbm, ⟨64, _⟩ => ⟨S32x2x16x16x4096, .bf16⟩
  | .hbm, ⟨65, _⟩ => ⟨S32x2x128x16x16, .f32⟩
  | .hbm, ⟨66, _⟩ => ⟨S32x16x2x16x128, .f32⟩
  | .hbm, ⟨67, _⟩ => ⟨S32x2x16x16x16, .bf16⟩
  | .hbm, ⟨68, _⟩ => ⟨S32x2x128x16x16, .f32⟩
  | .hbm, ⟨69, _⟩ => ⟨S32x16x2x16x128, .f32⟩
  | .hbm, ⟨70, _⟩ => ⟨S32x16x2x16x128, .f32⟩
  | .hbm, ⟨71, _⟩ => ⟨S32x16x2x16x1, .f32⟩
  | .hbm, ⟨72, _⟩ => ⟨S32x16x2x16x128, .f32⟩
  | .hbm, ⟨73, _⟩ => ⟨S32x16x2x16x128, .f32⟩
  | .hbm, ⟨74, _⟩ => ⟨S32x16x32x128, .f32⟩
  | .hbm, ⟨75, _⟩ => ⟨S32x16x32x128, .bf16⟩
  | .local _ .vmem, ⟨0, _⟩ => ⟨S32x16x2x128, .bf16⟩
  | .local _ .vmem, ⟨1, _⟩ => ⟨S32x16x2x128, .bf16⟩
  | .local _ .vmem, ⟨2, _⟩ => ⟨S32x4096x2x128, .fp8e4m3⟩
  | .local _ .vmem, ⟨3, _⟩ => ⟨S32x4096x2, .f32⟩
  | .local _ .vmem, ⟨4, _⟩ => ⟨S32x4096x2x128, .fp8e4m3⟩
  | .local _ .vmem, ⟨5, _⟩ => ⟨S32x4096x2, .f32⟩
  | .local _ .vmem, ⟨6, _⟩ => ⟨S32x16x2x128, .fp8e4m3⟩
  | .local _ .vmem, ⟨7, _⟩ => ⟨S32x16x2, .f32⟩
  | .local _ .vmem, ⟨8, _⟩ => ⟨S32x16x2x128, .fp8e4m3⟩
  | .local _ .vmem, ⟨9, _⟩ => ⟨S32x16x2, .f32⟩
  | .local _ .vmem, ⟨10, _⟩ => ⟨S32x4096x2x128, .bf16⟩
  | .local _ .vmem, ⟨11, _⟩ => ⟨S32x4096x2x128, .bf16⟩
  | .local _ .vmem, ⟨12, _⟩ => ⟨S32x16x2x128, .bf16⟩
  | .local _ .vmem, ⟨13, _⟩ => ⟨S32x16x2x128, .bf16⟩
  | _, _ => ⟨S32x16x32x128, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v1 : Ref sig .tc := ⟨.hbm, 17, rfl⟩
abbrev main_v2 : Ref sig .tc := ⟨.hbm, 18, rfl⟩
abbrev main_cst : Ref sig .tc := ⟨.hbm, 19, rfl⟩
abbrev main_v3 : Ref sig .tc := ⟨.hbm, 20, rfl⟩
abbrev main_v4 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_v11 : Ref sig .tc := ⟨.hbm, 28, rfl⟩
abbrev main_cst_0 : Ref sig .tc := ⟨.hbm, 29, rfl⟩
abbrev main_call0_v0 : Ref sig .tc := ⟨.hbm, 30, rfl⟩
abbrev main_call0_v1 : Ref sig .tc := ⟨.hbm, 31, rfl⟩
abbrev main_call0_v2 : Ref sig .tc := ⟨.hbm, 32, rfl⟩
abbrev main_v12 : Ref sig .tc := ⟨.hbm, 33, rfl⟩
abbrev main_v13 : Ref sig .tc := ⟨.hbm, 34, rfl⟩
abbrev main_cst_1 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_cst_2 : Ref sig .tc := ⟨.hbm, 39, rfl⟩
abbrev main_call1_v0 : Ref sig .tc := ⟨.hbm, 40, rfl⟩
abbrev main_call1_v1 : Ref sig .tc := ⟨.hbm, 41, rfl⟩
abbrev main_call1_v2 : Ref sig .tc := ⟨.hbm, 42, rfl⟩
abbrev main_v17 : Ref sig .tc := ⟨.hbm, 43, rfl⟩
abbrev main_cst_3 : Ref sig .tc := ⟨.hbm, 44, rfl⟩
abbrev main_v18 : Ref sig .tc := ⟨.hbm, 45, rfl⟩
abbrev main_v19 : Ref sig .tc := ⟨.hbm, 46, rfl⟩
abbrev main_cst_4 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_cst_5 : Ref sig .tc := ⟨.hbm, 57, rfl⟩
abbrev main_v29 : Ref sig .tc := ⟨.hbm, 58, rfl⟩
abbrev main_v30 : Ref sig .tc := ⟨.hbm, 59, rfl⟩
abbrev main_cst_6 : Ref sig .tc := ⟨.hbm, 60, rfl⟩
abbrev main_v31 : Ref sig .tc := ⟨.hbm, 61, rfl⟩
abbrev main_v32 : Ref sig .tc := ⟨.hbm, 62, rfl⟩
abbrev main_v33 : Ref sig .tc := ⟨.hbm, 63, rfl⟩
abbrev main_v34 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev main_v39 : Ref sig .tc := ⟨.hbm, 69, rfl⟩
abbrev main_v40 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := .none

abbrev stage0_0 : Fin 1 → Memref sig .tc .vmem S32x16x2x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S32x16x2x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S32x4096x2x128 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S32x4096x2 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S32x4096x2x128 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S32x4096x2 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S32x16x2x128 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S32x16x2 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S32x16x2x128 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S32x16x2 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S32x4096x2x128 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S32x4096x2x128 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S32x16x2x128 .bf16 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S32x16x2x128 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
-- ==== Proof.Entry.lean ====
/- The pipeline at its points: the schedule of the windows, what the region finds, the staging buffers and the scratch. -/
module

public import proofs.«01_k».proof.Proof.Gen.Kernel.Launch
public import proofs.«01_k».proof.Proof.Gen.Kernel.Skeleton
public import Idealize.ShloMosaic.Lib.Pipeline.Kit
public import Idealize.ShloMosaic.Lib.Pipeline.FrameBody
public import Idealize.ShloMosaic.Lib.Pipeline.FrameSuffix
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 1 (%arg0)) is fetched at the points ≡ 0 (mod 8), at any contents of the tables (its index map reads none). -/
theorem fetch0_0 (a : (pcfg0 (F := F)).Adm) : ∀ t : Fin (cfg0 a).N, ((cfg0 a).win 0).fetch t = true ↔ t.val % 8 = 0 :=
  (fun t => Pipeline.Window.fetchOf_reads cc0_transform_0 reads0_0 hreads0_0 0 (by decide) (by decide) (Pipeline.Window.sep_of_coord cc0_transform_0 0 0 (fun _ => rfl) (by decide)) (P := 8) (by decide) t : ∀ t : Fin grid0.N, Pipeline.Window.fetchOf grid0 false cc0_transform_0 t = true ↔ t.val % 8 = 0)
/-- Window 1 (operand 2 (%arg1)) is fetched at the points ≡ 0 (mod 8), at any contents of the tables (its index map reads none). -/
theorem fetch0_1 (a : (pcfg0 (F := F)).Adm) : ∀ t : Fin (cfg0 a).N, ((cfg0 a).win 1).fetch t = true ↔ t.val % 8 = 0 :=
  (fun t => Pipeline.Window.fetchOf_reads cc0_transform_1 reads0_1 hreads0_1 0 (by decide) (by decide) (Pipeline.Window.sep_of_coord cc0_transform_1 0 0 (fun _ => rfl) (by decide)) (P := 8) (by decide) t : ∀ t : Fin grid0.N, Pipeline.Window.fetchOf grid0 false cc0_transform_1 t = true ↔ t.val % 8 = 0)
/-- Window 2 (operand 3 (%arg2)) is fetched at the points ≡ 0 (mod 8), at any contents of the tables (its index map reads none). -/
theorem fetch0_2 (a : (pcfg0 (F := F)).Adm) : ∀ t : Fin (cfg0 a).N, ((cfg0 a).win 2).fetch t = true ↔ t.val % 8 = 0 :=
  (fun t => Pipeline.Window.fetchOf_reads cc0_transform_2 reads0_2 hreads0_2 0 (by decide) (by decide) (Pipeline.Window.sep_of_coord cc0_transform_2 0 0 (fun _ => rfl) (by decide)) (P := 8) (by decide) t : ∀ t : Fin grid0.N, Pipeline.Window.fetchOf grid0 false cc0_transform_2 t = true ↔ t.val % 8 = 0)
-- window 3: no schedule fact — its index map reads a prefetched table, so where it is fetched or written back depends on the tables' contents
-- window 4: no schedule fact — its index map reads a prefetched table, so where it is fetched or written back depends on the tables' contents
-- window 5: no schedule fact — its index map reads a prefetched table, so where it is fetched or written back depends on the tables' contents
-- window 6: no schedule fact — its index map reads a prefetched table, so where it is fetched or written back depends on the tables' contents
/-- Window 7 (operand 8 (%7)) is fetched at the first point only, at any contents of the tables (its index map reads none). -/
theorem fetch0_7 (a : (pcfg0 (F := F)).Adm) : ∀ t : Fin (cfg0 a).N, ((cfg0 a).win 7).fetch t = true ↔ t.val % 256 = 0 :=
  (fun t => Pipeline.Window.fetchOf_const cc0_transform_7 (fun _ _ => rfl) (n := 256) (by decide) t : ∀ t : Fin grid0.N, Pipeline.Window.fetchOf grid0 false cc0_transform_7 t = true ↔ t.val % 256 = 0)
/-- Window 8 (result 0 (%8#0)) is written back at the points ≡ 7 (mod 8), at any contents of the tables (its index map reads none). -/
theorem flush0_8 (a : (pcfg0 (F := F)).Adm) : ∀ t : Fin (cfg0 a).N, ((cfg0 a).win 8).flush t = true ↔ t.val % 8 = 7 :=
  (fun t => Pipeline.Window.flushOf_reads cc0_transform_8 reads0_8 hreads0_8 0 (by decide) (by decide) (Pipeline.Window.sep_of_coord cc0_transform_8 0 0 (fun _ => rfl) (by decide)) (P := 8) (m := 7) (by decide) rfl t : ∀ t : Fin grid0.N, Pipeline.Window.flushOf grid0 true cc0_transform_8 t = true ↔ t.val % 8 = 7)
/-- Window 9 (result 1 (%8#1)) is written back at the points ≡ 7 (mod 8), at any contents of the tables (its index map reads none). -/
theorem flush0_9 (a : (pcfg0 (F := F)).Adm) : ∀ t : Fin (cfg0 a).N, ((cfg0 a).win 9).flush t = true ↔ t.val % 8 = 7 :=
  (fun t => Pipeline.Window.flushOf_reads cc0_transform_9 reads0_9 hreads0_9 0 (by decide) (by decide) (Pipeline.Window.sep_of_coord cc0_transform_9 0 0 (fun _ => rfl) (by decide)) (P := 8) (m := 7) (by decide) rfl t : ∀ t : Fin grid0.N, Pipeline.Window.flushOf grid0 true cc0_transform_9 t = true ↔ t.val % 8 = 7)
/-- Window 10 (result 2 (%8#2)) is written back at the points ≡ 7 (mod 8), at any contents of the tables (its index map reads none). -/
theorem flush0_10 (a : (pcfg0 (F := F)).Adm) : ∀ t : Fin (cfg0 a).N, ((cfg0 a).win 10).flush t = true ↔ t.val % 8 = 7 :=
  (fun t => Pipeline.Window.flushOf_reads cc0_transform_10 reads0_10 hreads0_10 0 (by decide) (by decide) (Pipeline.Window.sep_of_coord cc0_transform_10 0 0 (fun _ => rfl) (by decide)) (P := 8) (m := 7) (by decide) rfl t : ∀ t : Fin grid0.N, Pipeline.Window.flushOf grid0 true cc0_transform_10 t = true ↔ t.val % 8 = 7)
/-- Window 11 (result 3 (%8#3)) is written back at the points ≡ 7 (mod 8), at any contents of the tables (its index map reads none). -/
theorem flush0_11 (a : (pcfg0 (F := F)).Adm) : ∀ t : Fin (cfg0 a).N, ((cfg0 a).win 11).flush t = true ↔ t.val % 8 = 7 :=
  (fun t => Pipeline.Window.flushOf_reads cc0_transform_11 reads0_11 hreads0_11 0 (by decide) (by decide) (Pipeline.Window.sep_of_coord cc0_transform_11 0 0 (fun _ => rfl) (by decide)) (P := 8) (m := 7) (by decide) rfl t : ∀ t : Fin grid0.N, Pipeline.Window.flushOf grid0 true cc0_transform_11 t = true ↔ t.val % 8 = 7)
/-- Window 12 (result 4 (%8#4)) is written back at the points ≡ 7 (mod 8), at any contents of the tables (its index map reads none). -/
theorem flush0_12 (a : (pcfg0 (F := F)).Adm) : ∀ t : Fin (cfg0 a).N, ((cfg0 a).win 12).flush t = true ↔ t.val % 8 = 7 :=
  (fun t => Pipeline.Window.flushOf_reads cc0_transform_12 reads0_12 hreads0_12 0 (by decide) (by decide) (Pipeline.Window.sep_of_coord cc0_transform_12 0 0 (fun _ => rfl) (by decide)) (P := 8) (m := 7) (by decide) rfl t : ∀ t : Fin grid0.N, Pipeline.Window.flushOf grid0 true cc0_transform_12 t = true ↔ t.val % 8 = 7)

/-- The current staging memref of each window at point `t`: which of its buffers it is on. -/
abbrev st0_0 (a : (pcfg0 (F := F)).Adm) (t : Fin (cfg0 a).N) := ((cfg0 a).win 0).stage ((cfg0 a).slots t 0)
abbrev st0_1 (a : (pcfg0 (F := F)).Adm) (t : Fin (cfg0 a).N) := ((cfg0 a).win 1).stage ((cfg0 a).slots t 1)
abbrev st0_2 (a : (pcfg0 (F := F)).Adm) (t : Fin (cfg0 a).N) := ((cfg0 a).win 2).stage ((cfg0 a).slots t 2)
abbrev st0_3 (a : (pcfg0 (F := F)).Adm) (t : Fin (cfg0 a).N) := ((cfg0 a).win 3).stage ((cfg0 a).slots t 3)
abbrev st0_4 (a : (pcfg0 (F := F)).Adm) (t : Fin (cfg0 a).N) := ((cfg0 a).win 4).stage ((cfg0 a).slots t 4)
abbrev st0_5 (a : (pcfg0 (F := F)).Adm) (t : Fin (cfg0 a).N) := ((cfg0 a).win 5).stage ((cfg0 a).slots t 5)
abbrev st0_6 (a : (pcfg0 (F := F)).Adm) (t : Fin (cfg0 a).N) := ((cfg0 a).win 6).stage ((cfg0 a).slots t 6)
abbrev st0_7 (a : (pcfg0 (F := F)).Adm) (t : Fin (cfg0 a).N) := ((cfg0 a).win 7).stage ((cfg0 a).slots t 7)
abbrev st0_8 (a : (pcfg0 (F := F)).Adm) (t : Fin (cfg0 a).N) := ((cfg0 a).win 8).stage ((cfg0 a).slots t 8)
abbrev st0_9 (a : (pcfg0 (F := F)).Adm) (t : Fin (cfg0 a).N) := ((cfg0 a).win 9).stage ((cfg0 a).slots t 9)
abbrev st0_10 (a : (pcfg0 (F := F)).Adm) (t : Fin (cfg0 a).N) := ((cfg0 a).win 10).stage ((cfg0 a).slots t 10)
abbrev st0_11 (a : (pcfg0 (F := F)).Adm) (t : Fin (cfg0 a).N) := ((cfg0 a).win 11).stage ((cfg0 a).slots t 11)
abbrev st0_12 (a : (pcfg0 (F := F)).Adm) (t : Fin (cfg0 a).N) := ((cfg0 a).win 12).stage ((cfg0 a).slots t 12)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tree_attn (grid0.coords t) (Memref.whole main_arg7) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11)) (spec0_12.stage ((cfg0 a).slots t 12)) (hstage0_12 (((cfg0 a).slots t 12).cast nbuf0_12)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _)

variable (m : (ℓ : Loc nD τ sig) → Buf (Elt F) ℓ) (ρ : Dev nD → PrngReg)
/-! ## @main around the region -/

/-- Core `c`'s TensorCore buffer contents when the region is entered, as a valuation: after the host operations before
    the region (`hostOps0`). -/
abbrev V0 (c : Dev nD) : Valuation τ sig (Elt F) := StableHlo.after (List.flatten [hostOps0]) (fun b => m (c, b))
/-- The same read at a TensorCore reference. -/
abbrev V (c : Dev nD) (b : Ref sig .tc) : Buf (Elt F) ((c : Thread nD τ).loc b) := V0 m c (Proc.devRef .tc b)

theorem hostOps0_fresh : (hostOps0 : List (HloOp τ sig (Elt F))).Forall fun op => op.fresh = ∅ := by
  simp only [List.Forall]; repeat' constructor
theorem hostOps1_fresh : (hostOps1 : List (HloOp τ sig (Elt F))).Forall fun op => op.fresh = ∅ := by
  simp only [List.Forall]; repeat' constructor

set_option maxHeartbeats 800000 in
/-- @main around the region, at the certificate's variants `𝒱₀`: the host lines before it, the region, the host lines
    after it (`Pipeline.hmain_around`, off `main_chain`): it reduces to the region CONTINUED BY the later lines. -/
theorem hmain (𝒱₀ : Variants) : Pipeline.HMainPK (Ix := Unit) (Name := ℕ) (U := UR sig nD τ) (Lvl := ℕ) pcfgs 0 defs₀ 𝒱₀ m (main (F := F)) (V m)
      (fun _ => Pipeline.chain ([hostOps1].map StableHlo.seq)) :=
  Pipeline.hmainP_around pcfgs 0 defs₀ 𝒱₀ m main [hostOps0] [hostOps1] (by simp only [List.Forall]; exact hostOps0_sub)
    (by simp only [List.Forall]; exact hostOps0_fresh) main_chain

/-- The lines after the region touch the pipeline's arrays and the bypassing buffers only: each operation's buffers
    are unscoped TensorCore references, none of them a prefetched table (`Pipeline.sub_tailRefs`). -/
theorem sfx_sub : ∀ ops ∈ ([hostOps1] : List (List (HloOp τ sig (Elt F)))), ∀ op ∈ ops,
    op.bufs ⊆ Pipeline.tailRefs sig pre0 spec0 := by
  intro ops hops op hop
  simp only [List.mem_cons, List.mem_nil_iff, or_false] at hops
  rcases hops with rfl
  · refine Pipeline.sub_tailRefs pre0 spec0 op ((List.forall_iff_forall_mem.mp hostOps1_sub) op hop) ?_
    simp only [hostOps1, List.mem_cons, List.mem_nil_iff, or_false] at hop
    rcases hop with rfl | rfl | rfl | rfl | rfl | rfl | rfl | rfl
    all_goals intro j; fin_cases j <;> simp only [StableHlo.nullary_bufs, StableHlo.unary_bufs, StableHlo.binary_bufs, StableHlo.ternary_bufs, StableHlo.quaternary_bufs, StableHlo.reshape_bufs, Finset.mem_insert, Finset.mem_singleton, not_or] <;> and_intros <;> exact StableHlo.devRef_ne_of_ne (by decide)
/-- They allocate nothing. -/
theorem sfx_fresh : ∀ ops ∈ ([hostOps1] : List (List (HloOp τ sig (Elt F)))), ∀ op ∈ ops, op.fresh = ∅ := by
  intro ops hops op hop
  simp only [List.mem_cons, List.mem_nil_iff, or_false] at hops
  rcases hops with rfl
  · exact (List.forall_iff_forall_mem.mp hostOps1_fresh) op hop
set_option maxHeartbeats 208000 in
/-- And write no array of the pipeline (each writes only its own result buffer, which is no array). -/
theorem sfx_keeps : ∀ ops ∈ ([hostOps1] : List (List (HloOp τ sig (Elt F)))), ∀ op ∈ ops,
    ∀ w, Proc.devRef .tc (Pipeline.arrRef spec0 w) ∉ op.writes := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro w; fin_cases w <;> simp only [StableHlo.nullary_writes, StableHlo.unary_writes, StableHlo.binary_writes, StableHlo.ternary_writes, StableHlo.quaternary_writes, StableHlo.reshape_writes, StableHlo.binaryIndexed_writes, Finset.mem_singleton] <;> exact StableHlo.devRef_ne_of_ne (by decide)

/-- The buffers the lines after the region WRITE, as references: results computed from contents the run does not name
    (an operand the body wrote by its own DMA, or a forgotten output), so nothing is stated of them either. -/
def T0 : Finset (Ref sig .tc) := {main_v10, main_v11, main_v12, main_v13, main_v14, main_v15, main_v16, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 1) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it from the precondition. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
abbrev cfgM (hO : Ok m) : Pipeline.Cfg sig Λ₀ := cfg0 (adm m hO)

/-- Each table as the body is handed it: its whole buffer as a memref, and that memref's wholeness. -/
abbrev tbM0_0 : Memref sig .tc .smem S32 .i32 := Memref.whole main_arg7
abbrev htbM0_0 : tbM0_0.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0)) := by
  unfold Pipeline.ΦT Pipeline.prefHeld
  rw [show (Finset.univ : Finset (Fin 1)) = {(0 : Fin 1)} from by decide, bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-! ## The body's branch conditions -/

/-- The condition of the body's `scf.if` 0 (`k0_h1`), from the grid coordinates (the skeleton's scalar
    chain substituted). -/
abbrev cond0_0 (i : grid0.Coords) : Prop := k0_cond1 i = 1#1
/-- It holds at the points ≡ 0 (mod 8) — by arithmetic of the point. -/
theorem hcond0_0 : ∀ t : Fin grid0.N, cond0_0 (grid0.coords t) ↔ t.val % 8 = 0 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_0, k0_cond1, e0, e1]
    word_cmp
   : ∀ t : Fin grid0.N, cond0_0 (grid0.coords t) ↔ t.val % 8 = 0)

/-- The condition of the body's `scf.if` 1: over WORDS the body reads from its tables or input SMEM windows
    (`v1`), so no function of the point — a case variable: a hypothesis of each run, a `by_cases`
    of the obligation and an `if` of `outsAt`, stated over the argument blocks' words there. -/
abbrev cond0_1 (i : grid0.Coords) (v1 : BitVec 32) : Prop := (Scalar.cmpi .ne (Scalar.extui (Scalar.cmpi .slt (Scalar.muli (BitVec.ofNat 32 (i 1).val) 512#32) v1)) 0#32) = 1#1

/-- The condition of the body's `scf.if` 2 (`k0_h3`), from the grid coordinates (the skeleton's scalar
    chain substituted). -/
abbrev cond0_2 (i : grid0.Coords) : Prop := k0_cond3 i = 1#1
/-- It holds at the points ≡ 7 (mod 8) — by arithmetic of the point. -/
theorem hcond0_2 : ∀ t : Fin grid0.N, cond0_2 (grid0.coords t) ↔ t.val % 8 = 7 :=
  (fun t => by
    have ht : t.val < 256 := Nat.lt_of_lt_of_eq t.isLt N_0
    have e0 : (grid0.coords t 0).val = t.val / 8 % 32 := Pipeline.Grid.coords_val t 0 (by decide) rfl
    have e1 : (grid0.coords t 1).val = t.val / 1 % 8 := Pipeline.Grid.coords_val t 1 (by decide) rfl
    simp only [cond0_2, k0_cond3, e0, e1]
    word_cmp
   : ∀ t : Fin grid0.N, cond0_2 (grid0.coords t) ↔ t.val % 8 = 7)

/-! ## Where the windows are idle (the printed configuration's table `Cfg.idle`) -/

/-- Each window's current staging memref at point `t`, spelled as the pipeline passes it (`bodyAt0`), and its wholeness. -/
abbrev ms0_0 (hO : Ok m) (t : Fin (cfgM m hO).N) : Memref sig .tc .vmem S1x16x32x128 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S1x16x2x128 .bf16 := spec0_1.stage ((cfgM m hO).slots t 1)
abbrev hs0_1 (hO : Ok m) (t : Fin (cfgM m hO).N) : (ms0_1 m hO t).IsWhole := hstage0_1 (((cfgM m hO).slots t 1).cast nbuf0_1)
abbrev ms0_2 (hO : Ok m) (t : Fin (cfgM m hO).N) : Memref sig .tc .vmem S1x16x2x128 .bf16 := spec0_2.stage ((cfgM m hO).slots t 2)
abbrev hs0_2 (hO : Ok m) (t : Fin (cfgM m hO).N) : (ms0_2 m hO t).IsWhole := hstage0_2 (((cfgM m hO).slots t 2).cast nbuf0_2)
abbrev ms0_3 (hO : Ok m) (t : Fin (cfgM m hO).N) : Memref sig .tc .vmem S1x2x512x128 .fp8e4m3 := spec0_3.stage ((cfgM m hO).slots t 3)
abbrev hs0_3 (hO : Ok m) (t : Fin (cfgM m hO).N) : (ms0_3 m hO t).IsWhole := hstage0_3 (((cfgM m hO).slots t 3).cast nbuf0_3)
abbrev ms0_4 (hO : Ok m) (t : Fin (cfgM m hO).N) : Memref sig .tc .vmem S1x2x512 .f32 := spec0_4.stage ((cfgM m hO).slots t 4)
abbrev hs0_4 (hO : Ok m) (t : Fin (cfgM m hO).N) : (ms0_4 m hO t).IsWhole := hstage0_4 (((cfgM m hO).slots t 4).cast nbuf0_4)
abbrev ms0_5 (hO : Ok m) (t : Fin (cfgM m hO).N) : Memref sig .tc .vmem S1x2x512x128 .fp8e4m3 := spec0_5.stage ((cfgM m hO).slots t 5)
abbrev hs0_5 (hO : Ok m) (t : Fin (cfgM m hO).N) : (ms0_5 m hO t).IsWhole := hstage0_5 (((cfgM m hO).slots t 5).cast nbuf0_5)
abbrev ms0_6 (hO : Ok m) (t : Fin (cfgM m hO).N) : Memref sig .tc .vmem S1x2x512 .f32 := spec0_6.stage ((cfgM m hO).slots t 6)
abbrev hs0_6 (hO : Ok m) (t : Fin (cfgM m hO).N) : (ms0_6 m hO t).IsWhole := hstage0_6 (((cfgM m hO).slots t 6).cast nbuf0_6)
abbrev ms0_7 (hO : Ok m) (t : Fin (cfgM m hO).N) : Memref sig .tc .vmem S16x256 .f32 := spec0_7.stage ((cfgM m hO).slots t 7)
abbrev hs0_7 (hO : Ok m) (t : Fin (cfgM m hO).N) : (ms0_7 m hO t).IsWhole := hstage0_7 (((cfgM m hO).slots t 7).cast nbuf0_7)
abbrev ms0_8 (hO : Ok m) (t : Fin (cfgM m hO).N) : Memref sig .tc .vmem S1x16x32x128 .bf16 := spec0_8.stage ((cfgM m hO).slots t 8)
abbrev hs0_8 (hO : Ok m) (t : Fin (cfgM m hO).N) : (ms0_8 m hO t).IsWhole := hstage0_8 (((cfgM m hO).slots t 8).cast nbuf0_8)
abbrev ms0_9 (hO : Ok m) (t : Fin (cfgM m hO).N) : Memref sig .tc .vmem S1x2x16x128 .fp8e4m3 := spec0_9.stage ((cfgM m hO).slots t 9)
abbrev hs0_9 (hO : Ok m) (t : Fin (cfgM m hO).N) : (ms0_9 m hO t).IsWhole := hstage0_9 (((cfgM m hO).slots t 9).cast nbuf0_9)
abbrev ms0_10 (hO : Ok m) (t : Fin (cfgM m hO).N) : Memref sig .tc .vmem S1x2x16x128 .f32 := spec0_10.stage ((cfgM m hO).slots t 10)
abbrev hs0_10 (hO : Ok m) (t : Fin (cfgM m hO).N) : (ms0_10 m hO t).IsWhole := hstage0_10 (((cfgM m hO).slots t 10).cast nbuf0_10)
abbrev ms0_11 (hO : Ok m) (t : Fin (cfgM m hO).N) : Memref sig .tc .vmem S1x2x16x128 .fp8e4m3 := spec0_11.stage ((cfgM m hO).slots t 11)
abbrev hs0_11 (hO : Ok m) (t : Fin (cfgM m hO).N) : (ms0_11 m hO t).IsWhole := hstage0_11 (((cfgM m hO).slots t 11).cast nbuf0_11)
abbrev ms0_12 (hO : Ok m) (t : Fin (cfgM m hO).N) : Memref sig .tc .vmem S1x2x16x128 .f32 := spec0_12.stage ((cfgM m hO).slots t 12)
abbrev hs0_12 (hO : Ok m) (t : Fin (cfgM m hO).N) : (ms0_12 m hO t).IsWhole := hstage0_12 (((cfgM m hO).slots t 12).cast nbuf0_12)
/-- The scratch operands: whole scoped buffers of the kernel's own, passed beside the windows. -/
abbrev scM0_0 : Memref sig .tc .vmem S2x1x256 .f32 := Memref.whole cc0_scratch0
abbrev scM0_1 : Memref sig .tc .vmem S2x1x256 .f32 := Memref.whole cc0_scratch1
abbrev scM0_2 : Memref sig .tc .vmem S2x128x256 .f32 := Memref.whole cc0_scratch2
abbrev scM0_3 : Memref sig .tc .vmem S2x16x256 .f32 := Memref.whole cc0_scratch3
abbrev scM0_4 : Memref sig .tc .vmem S2x16x128 .bf16 := Memref.whole cc0_scratch4
/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

end Cert.Kernel.Hand

end
-- ==== Proof.BodyParts.lean ====
/- The kernel body cut into its three guarded parts, and the buffers each part touches. -/
module

public import proofs.«01_k».proof.Proof.Entry

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

structure Refs where
  r3 : Memref sig .tc .vmem S1x16x32x128 .bf16
  w3 : r3.IsWhole
  r4 : Memref sig .tc .vmem S1x16x2x128 .bf16
  w4 : r4.IsWhole
  r5 : Memref sig .tc .vmem S1x16x2x128 .bf16
  w5 : r5.IsWhole
  r6 : Memref sig .tc .vmem S1x2x512x128 .fp8e4m3
  w6 : r6.IsWhole
  r7 : Memref sig .tc .vmem S1x2x512 .f32
  w7 : r7.IsWhole
  r8 : Memref sig .tc .vmem S1x2x512x128 .fp8e4m3
  w8 : r8.IsWhole
  r9 : Memref sig .tc .vmem S1x2x512 .f32
  w9 : r9.IsWhole
  r10 : Memref sig .tc .vmem S16x256 .f32
  w10 : r10.IsWhole
  r11 : Memref sig .tc .vmem S1x16x32x128 .bf16
  w11 : r11.IsWhole
  r12 : Memref sig .tc .vmem S1x2x16x128 .fp8e4m3
  w12 : r12.IsWhole
  r13 : Memref sig .tc .vmem S1x2x16x128 .f32
  w13 : r13.IsWhole
  r14 : Memref sig .tc .vmem S1x2x16x128 .fp8e4m3
  w14 : r14.IsWhole
  r15 : Memref sig .tc .vmem S1x2x16x128 .f32
  w15 : r15.IsWhole
  r16 : Memref sig .tc .vmem S2x1x256 .f32
  w16 : r16.IsWhole
  r17 : Memref sig .tc .vmem S2x1x256 .f32
  w17 : r17.IsWhole
  r18 : Memref sig .tc .vmem S2x128x256 .f32
  w18 : r18.IsWhole
  r19 : Memref sig .tc .vmem S2x16x256 .f32
  w19 : r19.IsWhole
  r20 : Memref sig .tc .vmem S2x16x128 .bf16
  w20 : r20.IsWhole

def seg1 (R : Refs) (i : grid0.Coords) : Prog (TpuEff nD τ sig (Elt F) Λ₀ .tc) PUnit := do
  let ⟨v41, v53⟩ : Σ' (v41 : FVec F S16x1 .f32), FVec F S16x128 .fp8e4m3 ← k0_part1 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20
  let ⟨v83, v95⟩ : Σ' (v83 : FVec F S16x1 .f32), FVec F S16x128 .fp8e4m3 ← k0_part2 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20
  let v126 : FVec F S16x256 .f32 ← k0_part3 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v41 v53 v83 v95
  let ⟨v145, v161, v162⟩ : Σ' (v145 : FVec F S16x128 .f32) (v161 : IVec S16x1 32), IVec S16x1 32 ← k0_part4 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v126
  let ⟨v172, v184, v187, v203, v204⟩ : Σ' (v172 : FVec F S16x1 .f32) (v184 : FVec F S16x128 .fp8e4m3) (v187 : FVec F S16x128 .f32) (v203 : IVec S16x1 32), IVec S16x1 32 ← k0_part5 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v145 v161 v162
  let ⟨v214, v226, v239⟩ : Σ' (v214 : FVec F S16x1 .f32) (v226 : FVec F S16x128 .fp8e4m3), FVec F S16x128 .f32 ← k0_part6 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v172 v184 v187 v203 v204
  k0_part7 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v172 v184 v214 v226 v239
  let v275 : Vec F S2x1x256 .f32 ← Prog.lift (.load R.r17 (Rect.unit (s := S2x1x256) ![0, 0, 0] S2x1x256.size inb_S2x1x256_S2x1x256_0_0_0).toLoadRect (View.loadsAt_vmem h_S2x1x256))
  Prog.lift (.store R.r17 (Rect.unit (s := S2x1x256) ![0, 0, 0] S2x1x256.size inb_S2x1x256_S2x1x256_0_0_0) (k0_pay1 (F := F)) Finset.univ (View.stores_vmem_bits_univ h_S2x1x256 rfl) (.inl rfl))
  let v279 : Vec F S2x128x256 .f32 ← Prog.lift (.load R.r18 (Rect.unit (s := S2x128x256) ![0, 0, 0] S2x128x256.size inb_S2x128x256_S2x128x256_0_0_0).toLoadRect (View.loadsAt_vmem h_S2x128x256))
  Prog.lift (.store R.r18 (Rect.unit (s := S2x128x256) ![0, 0, 0] S2x128x256.size inb_S2x128x256_S2x128x256_0_0_0) (k0_pay2 (F := F)) Finset.univ (View.stores_vmem_bits_univ h_S2x128x256 rfl) (.inl rfl))
  pure ⟨⟩

def seg2 (R : Refs) (i : grid0.Coords) (arg1 : BitVec 32) (v1 : Elt F .i32) : Prog (TpuEff nD τ sig (Elt F) Λ₀ .tc) PUnit := do
  let ⟨v42, v45⟩ : Σ' (v42 : FVec F S1x256 .f32), FVec F S512x256 .f32 ← k0_part8 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 arg1 v1
  let v82 : FVec F S512x128 .bf16 ← k0_part9 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 v42 v45
  let ⟨v107, v110, v116, v118⟩ : Σ' (v107 : FVec F S1x256 .f32) (v110 : FVec F S512x256 .f32) (v116 : FVec F S1x256 .f32), FVec F S1x256 .f32 ← k0_part10 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 arg1 v1 v82
  let v120 : Vec F S1x1x256 .f32 ← Prog.lift (.load R.r17 (Rect.unit (s := S2x1x256) ![1, 0, 0] S1x1x256.size inb_S2x1x256_S1x1x256_1_0_0).toLoadRect (View.loadsAt_vmem h_S1x1x256))
  Prog.lift (.store R.r17 (Rect.unit (s := S2x1x256) ![1, 0, 0] S1x1x256.size inb_S2x1x256_S1x1x256_1_0_0) (k0_pay3 v116 v118) Finset.univ (View.stores_vmem_bits_univ h_S1x1x256 rfl) (.inl rfl))
  let v123 : Vec F S1x1x512x128 .fp8e4m3 ← Prog.lift (.load R.r8 (Rect.unit (s := S1x2x512x128) ![0, 1, 0, 0] S1x1x512x128.size inb_S1x2x512x128_S1x1x512x128_0_1_0_0).toLoadRect (View.loadsAt_vmem h_S1x1x512x128))
  let v127 : Vec F S1x1x512 .f32 ← Prog.lift (.load R.r9 (Rect.unit (s := S1x2x512) ![0, 1, 0] S1x1x512.size inb_S1x2x512_S1x1x512_0_1_0).toLoadRect (View.loadsAt_vmem h_S1x1x512))
  let v132 : Vec F S1x128x256 .f32 ← Prog.lift (.load R.r18 (Rect.unit (s := S2x128x256) ![1, 0, 0] S1x128x256.size inb_S2x128x256_S1x128x256_1_0_0).toLoadRect (View.loadsAt_vmem h_S1x128x256))
  let v139 : Vec F S1x128x256 .f32 ← Prog.lift (.load R.r18 (Rect.unit (s := S2x128x256) ![1, 0, 0] S1x128x256.size inb_S2x128x256_S1x128x256_1_0_0).toLoadRect (View.loadsAt_vmem h_S1x128x256))
  Prog.lift (.store R.r18 (Rect.unit (s := S2x128x256) ![1, 0, 0] S1x128x256.size inb_S2x128x256_S1x128x256_1_0_0) (k0_pay4 v107 v110 v123 v127 v132) Finset.univ (View.stores_vmem_bits_univ h_S1x128x256 rfl) (.inl rfl))
  pure ⟨⟩

def seg3 (R : Refs) (i : grid0.Coords) : Prog (TpuEff nD τ sig (Elt F) Λ₀ .tc) PUnit := do
  let ⟨v42, v43⟩ : Σ' (v42 : FVec F S16x256 .f32), Vec F S1x1x256 .f32 ← k0_part11 i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20
  let v48 : Vec F S1x1x256 .f32 ← Prog.lift (.load R.r17 (Rect.unit (s := S2x1x256) ![1, 0, 0] S1x1x256.size inb_S2x1x256_S1x1x256_1_0_0).toLoadRect (View.loadsAt_vmem h_S1x1x256))
  let v53 : Vec F S1x128x256 .f32 ← Prog.lift (.load R.r18 (Rect.unit (s := S2x128x256) ![1, 0, 0] S1x128x256.size inb_S2x128x256_S1x128x256_1_0_0).toLoadRect (View.loadsAt_vmem h_S1x128x256))
  let v57 : Vec F S1x16x128 .bf16 ← Prog.lift (.load R.r20 (Rect.unit (s := S2x16x128) ![1, 0, 0] S1x16x128.size inb_S2x16x128_S1x16x128_1_0_0).toLoadRect (View.loadsAt_vmem h_S1x16x128))
  let v67 : Vec F S1x16x16x128 .bf16 ← Prog.lift (.load R.r11 (Rect.unit (s := S1x16x32x128) ![0, 0, 16, 0] S1x16x16x128.size inb_S1x16x32x128_S1x16x16x128_0_0_16_0).toLoadRect (View.loadsAt_vmem h_S1x16x16x128))
  Prog.lift (.store R.r11 (Rect.unit (s := S1x16x32x128) ![0, 0, 16, 0] S1x16x16x128.size inb_S1x16x32x128_S1x16x16x128_0_0_16_0) (k0_pay5 v42 v43 v48 v53 v57) Finset.univ (View.stores_vmem h_S1x16x16x128 (R.w11.storeExact_slice rfl _ packedbf16_S1x16x32x128_S1x16x16x128_0_0_16_0) (fun _ => rfl)) (.inl rfl))
  pure ⟨⟩

/-- The body at its memrefs: the table's word is read, then each branch runs its segment. -/
theorem body_eq (R : Refs) (i : grid0.Coords) : cc0_tree_attn (F := F) i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20 = (do
    let v1 : Elt F .i32 ← smemLoad tbM0_0 (Rect.unit (s := S32) (k0_off1 i) S1.size (k0_off1_inb i)) numel1_S1 rfl
    if k0_cond1 i = 1#1 then seg1 R i else pure ⟨⟩
    if Scalar.cmpi .ne (Scalar.extui (Scalar.cmpi .slt (Scalar.muli (BitVec.ofNat 32 (i 1).val) 512#32) v1) : BitVec 32) 0#32 = 1#1 then
      seg2 R i (BitVec.ofNat 32 (i 1).val) v1 else pure ⟨⟩
    if k0_cond3 i = 1#1 then seg3 R i else pure ⟨⟩
    pure ⟨⟩) := by
  rw [cc0_tree_attn_eq_skeleton]; rfl

end Cert.Kernel.Hand
-- ==== Proof.BodyValues.lean ====
/- What each part of the body computes, as functions of the blocks and of the scratch. -/
module

public import proofs.«01_k».proof.Proof.BodyParts

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- A load of the box `r` of a whole memref held at `X` reads `X` there. -/
theorem rd {κ : Kind} {sp : Space} {S : Shape} {e : EltTy} {m : Memref sig κ sp S e} (h : m.IsWhole) (X : S.Idx → Elt F e) (r : Rect S) :
    m.view.readAt (Elt F) r.toLoadRect (h.unread X) = View.ld X r := funext fun x => congrFun (h.read_unread X) _

/-- A head's box. -/
abbrev bN0 : Rect S1x16x2x128 := Rect.unit (s := S1x16x2x128) ![0, 0, 0, 0] S1x16x1x128.size inb_S1x16x2x128_S1x16x1x128_0_0_0_0
/-- A head's box. -/
abbrev bX0 : Rect S1x16x32x128 := Rect.unit (s := S1x16x32x128) ![0, 0, 0, 0] S1x16x16x128.size inb_S1x16x32x128_S1x16x16x128_0_0_0_0
/-- A head's box. -/
abbrev bQ0 : Rect S1x2x16x128 := Rect.unit (s := S1x2x16x128) ![0, 0, 0, 0] S1x1x16x128.size inb_S1x2x16x128_S1x1x16x128_0_0_0_0
/-- A head's box. -/
abbrev bV0 : Rect S2x16x128 := Rect.unit (s := S2x16x128) ![0, 0, 0] S1x16x128.size inb_S2x16x128_S1x16x128_0_0_0
/-- A head's box. -/
abbrev bS0 : Rect S2x16x256 := Rect.unit (s := S2x16x256) ![0, 0, 0] S1x16x256.size inb_S2x16x256_S1x16x256_0_0_0
/-- A head's box. -/
abbrev bM0 : Rect S2x1x256 := Rect.unit (s := S2x1x256) ![0, 0, 0] S1x1x256.size inb_S2x1x256_S1x1x256_0_0_0
/-- A head's box. -/
abbrev bA0 : Rect S2x128x256 := Rect.unit (s := S2x128x256) ![0, 0, 0] S1x128x256.size inb_S2x128x256_S1x128x256_0_0_0
/-- A head's box. -/
abbrev bK0 : Rect S1x2x512x128 := Rect.unit (s := S1x2x512x128) ![0, 0, 0, 0] S1x1x512x128.size inb_S1x2x512x128_S1x1x512x128_0_0_0_0
/-- A head's box. -/
abbrev bT0 : Rect S1x2x512 := Rect.unit (s := S1x2x512) ![0, 0, 0] S1x1x512.size inb_S1x2x512_S1x1x512_0_0_0
/-- A head's box. -/
abbrev bN1 : Rect S1x16x2x128 := Rect.unit (s := S1x16x2x128) ![0, 0, 1, 0] S1x16x1x128.size inb_S1x16x2x128_S1x16x1x128_0_0_1_0
/-- A head's box. -/
abbrev bX1 : Rect S1x16x32x128 := Rect.unit (s := S1x16x32x128) ![0, 0, 16, 0] S1x16x16x128.size inb_S1x16x32x128_S1x16x16x128_0_0_16_0
/-- A head's box. -/
abbrev bQ1 : Rect S1x2x16x128 := Rect.unit (s := S1x2x16x128) ![0, 1, 0, 0] S1x1x16x128.size inb_S1x2x16x128_S1x1x16x128_0_1_0_0
/-- A head's box. -/
abbrev bV1 : Rect S2x16x128 := Rect.unit (s := S2x16x128) ![1, 0, 0] S1x16x128.size inb_S2x16x128_S1x16x128_1_0_0
/-- A head's box. -/
abbrev bS1 : Rect S2x16x256 := Rect.unit (s := S2x16x256) ![1, 0, 0] S1x16x256.size inb_S2x16x256_S1x16x256_1_0_0
/-- A head's box. -/
abbrev bM1 : Rect S2x1x256 := Rect.unit (s := S2x1x256) ![1, 0, 0] S1x1x256.size inb_S2x1x256_S1x1x256_1_0_0
/-- A head's box. -/
abbrev bA1 : Rect S2x128x256 := Rect.unit (s := S2x128x256) ![1, 0, 0] S1x128x256.size inb_S2x128x256_S1x128x256_1_0_0
/-- A head's box. -/
abbrev bK1 : Rect S1x2x512x128 := Rect.unit (s := S1x2x512x128) ![0, 1, 0, 0] S1x1x512x128.size inb_S1x2x512x128_S1x1x512x128_0_1_0_0
/-- A head's box. -/
abbrev bT1 : Rect S1x2x512 := Rect.unit (s := S1x2x512) ![0, 1, 0] S1x1x512.size inb_S1x2x512_S1x1x512_0_1_0
/-- The whole mask, the whole sums and the whole accumulator. -/
abbrev bMask : Rect S16x256 := Rect.unit (s := S16x256) ![0, 0] S16x256.size inb_S16x256_S16x256_0_0
abbrev bMall : Rect S2x1x256 := Rect.unit (s := S2x1x256) ![0, 0, 0] S2x1x256.size inb_S2x1x256_S2x1x256_0_0_0
abbrev bAall : Rect S2x128x256 := Rect.unit (s := S2x128x256) ![0, 0, 0] S2x128x256.size inb_S2x128x256_S2x128x256_0_0_0

/-- The running maxima after a live block, from the block's codes and scales and the maxima before it. -/
def mUpL (a1 : BitVec 32) (v1 : Elt F .i32) (x : Vec F S1x16x32x128 .bf16) (kc : Vec F S1x2x512x128 .fp8e4m3) (ks : Vec F S1x2x512 .f32) (sm : Vec F S2x1x256 .f32) : List (View.Piece (Elt F) S2x1x256 .f32) :=
  [⟨bM1, k0_pay58 a1 v1 (k0_pay52 (View.ld ks bT1)) (View.ld kc bK1) (View.ld x bX1) (View.ld sm bM1)⟩,
    ⟨bM0, k0_pay49 a1 v1 (View.ld ks bT0) (View.ld kc bK0) (View.ld x bX0) (View.ld sm bM0)⟩]
@[inherit_doc mUpL] def mUp (a1 : BitVec 32) (v1 : Elt F .i32) (x : Vec F S1x16x32x128 .bf16) (kc : Vec F S1x2x512x128 .fp8e4m3) (ks : Vec F S1x2x512 .f32) (sm : Vec F S2x1x256 .f32) : Vec F S2x1x256 .f32 := View.canon (mUpL a1 v1 x kc ks sm)

/-- The running sums after a live block. -/
def lUpL (a1 : BitVec 32) (v1 : Elt F .i32) (x : Vec F S1x16x32x128 .bf16) (kc : Vec F S1x2x512x128 .fp8e4m3) (ks : Vec F S1x2x512 .f32) (sm sl : Vec F S2x1x256 .f32) : List (View.Piece (Elt F) S2x1x256 .f32) :=
  [⟨bM1, k0_pay50 (k0_pay47 a1 v1 (View.ld ks bT1) (View.ld kc bK1) (View.ld x bX1) (View.ld sm bM1)) (k0_pay48 a1 v1 (View.ld ks bT1) (View.ld kc bK1) (View.ld x bX1) (View.ld sm bM1)) (View.ld sl bM1)⟩,
    ⟨bM0, k0_pay50 (k0_pay47 a1 v1 (View.ld ks bT0) (View.ld kc bK0) (View.ld x bX0) (View.ld sm bM0)) (k0_pay48 a1 v1 (View.ld ks bT0) (View.ld kc bK0) (View.ld x bX0) (View.ld sm bM0)) (View.ld sl bM0)⟩]
@[inherit_doc lUpL] def lUp (a1 : BitVec 32) (v1 : Elt F .i32) (x : Vec F S1x16x32x128 .bf16) (kc : Vec F S1x2x512x128 .fp8e4m3) (ks : Vec F S1x2x512 .f32) (sm sl : Vec F S2x1x256 .f32) : Vec F S2x1x256 .f32 := View.canon (lUpL a1 v1 x kc ks sm sl)

/-- The running weighted values after a live block. -/
def aUpL (a1 : BitVec 32) (v1 : Elt F .i32) (x : Vec F S1x16x32x128 .bf16) (kc : Vec F S1x2x512x128 .fp8e4m3) (ks : Vec F S1x2x512 .f32) (vc : Vec F S1x2x512x128 .fp8e4m3) (vs : Vec F S1x2x512 .f32) (sm : Vec F S2x1x256 .f32) (sa : Vec F S2x128x256 .f32) : List (View.Piece (Elt F) S2x128x256 .f32) :=
  [⟨bA1, k0_pay51 (k0_pay47 a1 v1 (View.ld ks bT1) (View.ld kc bK1) (View.ld x bX1) (View.ld sm bM1)) (k0_pay48 a1 v1 (View.ld ks bT1) (View.ld kc bK1) (View.ld x bX1) (View.ld sm bM1)) (View.ld vc bK1) (View.ld vs bT1) (View.ld sa bA1)⟩,
    ⟨bA0, k0_pay51 (k0_pay47 a1 v1 (View.ld ks bT0) (View.ld kc bK0) (View.ld x bX0) (View.ld sm bM0)) (k0_pay48 a1 v1 (View.ld ks bT0) (View.ld kc bK0) (View.ld x bX0) (View.ld sm bM0)) (View.ld vc bK0) (View.ld vs bT0) (View.ld sa bA0)⟩]
@[inherit_doc aUpL] def aUp (a1 : BitVec 32) (v1 : Elt F .i32) (x : Vec F S1x16x32x128 .bf16) (kc : Vec F S1x2x512x128 .fp8e4m3) (ks : Vec F S1x2x512 .f32) (vc : Vec F S1x2x512x128 .fp8e4m3) (vs : Vec F S1x2x512 .f32) (sm : Vec F S2x1x256 .f32) (sa : Vec F S2x128x256 .f32) : Vec F S2x128x256 .f32 := View.canon (aUpL a1 v1 x kc ks vc vs sm sa)

/-- The codes of a batch's new tokens. -/
def qcOL (n : Vec F S1x16x2x128 .bf16) : List (View.Piece (Elt F) S1x2x16x128 .fp8e4m3) :=
  [⟨bQ1, k0_pay14 (k0_pay9 (View.ld n bN1))⟩, ⟨bQ0, k0_pay14 (k0_pay9 (View.ld n bN0))⟩]
@[inherit_doc qcOL] def qcO (n : Vec F S1x16x2x128 .bf16) : Vec F S1x2x16x128 .fp8e4m3 := View.canon (qcOL n)

/-- The scales of a batch's new tokens, repeated along the feature axis. -/
def qsOL (n : Vec F S1x16x2x128 .bf16) : List (View.Piece (Elt F) S1x2x16x128 .f32) :=
  [⟨bQ1, k0_pay16 (k0_pay8 (View.ld n bN1))⟩, ⟨bQ0, k0_pay16 (k0_pay8 (View.ld n bN0))⟩]
@[inherit_doc qsOL] def qsO (n : Vec F S1x16x2x128 .bf16) : Vec F S1x2x16x128 .f32 := View.canon (qsOL n)

/-- The new values read back from their codes. -/
def vnOL (n : Vec F S1x16x2x128 .bf16) : List (View.Piece (Elt F) S2x16x128 .bf16) :=
  [⟨bV1, k0_pay18 (k0_pay8 (View.ld n bN1)) (k0_pay9 (View.ld n bN1))⟩, ⟨bV0, k0_pay18 (k0_pay8 (View.ld n bN0)) (k0_pay9 (View.ld n bN0))⟩]
@[inherit_doc vnOL] def vnO (n : Vec F S1x16x2x128 .bf16) : Vec F S2x16x128 .bf16 := View.canon (vnOL n)

/-- The scores of the new keys. -/
def snOL (x : Vec F S1x16x32x128 .bf16) (n : Vec F S1x16x2x128 .bf16) (mk : Vec F S16x256 .f32) : List (View.Piece (Elt F) S2x16x256 .f32) :=
  [⟨bS1, k0_pay21 (k0_pay19 (k0_pay8 (View.ld n bN1)) (k0_pay9 (View.ld n bN1)) (View.ld x bX1)) (View.ld mk bMask)⟩,
    ⟨bS0, k0_pay21 (k0_pay19 (k0_pay8 (View.ld n bN0)) (k0_pay9 (View.ld n bN0)) (View.ld x bX0)) (View.ld mk bMask)⟩]
@[inherit_doc snOL] def snO (x : Vec F S1x16x32x128 .bf16) (n : Vec F S1x16x2x128 .bf16) (mk : Vec F S16x256 .f32) : Vec F S2x16x256 .f32 := View.canon (snOL x n mk)

/-- Their maxima. -/
def mInL (x : Vec F S1x16x32x128 .bf16) (n : Vec F S1x16x2x128 .bf16) (mk : Vec F S16x256 .f32) : List (View.Piece (Elt F) S2x1x256 .f32) :=
  [⟨bM1, k0_pay22 (k0_pay19 (k0_pay8 (View.ld n bN1)) (k0_pay9 (View.ld n bN1)) (View.ld x bX1)) (View.ld mk bMask)⟩,
    ⟨bM0, k0_pay22 (k0_pay19 (k0_pay8 (View.ld n bN0)) (k0_pay9 (View.ld n bN0)) (View.ld x bX0)) (View.ld mk bMask)⟩]
@[inherit_doc mInL] def mIn (x : Vec F S1x16x32x128 .bf16) (n : Vec F S1x16x2x128 .bf16) (mk : Vec F S16x256 .f32) : Vec F S2x1x256 .f32 := View.canon (mInL x n mk)

/-- The batch's attention rows, from the five buffers. -/
def atOL (sm sl : Vec F S2x1x256 .f32) (sa : Vec F S2x128x256 .f32) (sn : Vec F S2x16x256 .f32) (vn : Vec F S2x16x128 .bf16) : List (View.Piece (Elt F) S1x16x32x128 .bf16) :=
  [⟨bX1, k0_pay61 (View.ld sn bS1) (View.ld sm bM1) (View.ld sl bM1) (View.ld sa bA1) (View.ld vn bV1)⟩,
    ⟨bX0, k0_pay61 (View.ld sn bS0) (View.ld sm bM0) (View.ld sl bM0) (View.ld sa bA0) (View.ld vn bV0)⟩]
@[inherit_doc atOL] def atO (sm sl : Vec F S2x1x256 .f32) (sa : Vec F S2x128x256 .f32) (sn : Vec F S2x16x256 .f32) (vn : Vec F S2x16x128 .bf16) : Vec F S1x16x32x128 .bf16 := View.canon (atOL sm sl sa sn vn)

/-- The zero sums and the zero weighted values a batch starts with. -/
def lInL : List (View.Piece (Elt F) S2x1x256 .f32) := [⟨bMall, k0_pay1⟩]
@[inherit_doc lInL] def lIn : Vec F S2x1x256 .f32 := View.canon lInL
@[inherit_doc lInL] def aInL : List (View.Piece (Elt F) S2x128x256 .f32) := [⟨bAall, k0_pay2⟩]
@[inherit_doc lInL] def aIn : Vec F S2x128x256 .f32 := View.canon aInL

theorem pay58_eq (a1 : BitVec 32) (v1 : Elt F .i32) (T : Vec F S1x1x512 .f32) (K : Vec F S1x1x512x128 .fp8e4m3) (X : Vec F S1x16x16x128 .bf16) (M : Vec F S1x1x256 .f32) :
    k0_pay58 a1 v1 (k0_pay52 T) K X M = k0_pay49 a1 v1 T K X M := rfl
theorem pay59_eq (a1 : BitVec 32) (v1 : Elt F .i32) (T : Vec F S1x1x512 .f32) (K : Vec F S1x1x512x128 .fp8e4m3) (X : Vec F S1x16x16x128 .bf16) (M L : Vec F S1x1x256 .f32) :
    k0_pay3 (k0_pay59 a1 v1 (k0_pay52 T) K X M L) (k0_pay60 a1 v1 (k0_pay52 T) K X M) = k0_pay50 (k0_pay47 a1 v1 T K X M) (k0_pay48 a1 v1 T K X M) L := rfl
theorem pay4_eq (a1 : BitVec 32) (v1 : Elt F .i32) (T T' : Vec F S1x1x512 .f32) (K K' : Vec F S1x1x512x128 .fp8e4m3) (X : Vec F S1x16x16x128 .bf16) (M : Vec F S1x1x256 .f32) (A : Vec F S1x128x256 .f32) :
    k0_pay4 (k0_pay56 a1 v1 (k0_pay52 T) K X M) (k0_pay57 a1 v1 (k0_pay52 T) K X M) K' T' A = k0_pay51 (k0_pay47 a1 v1 T K X M) (k0_pay48 a1 v1 T K X M) K' T' A := rfl
theorem pay12_eq (n : Vec F S1x16x1x128 .bf16) : k0_pay12 n = k0_pay8 n := rfl
theorem pay13_eq (n : Vec F S1x16x1x128 .bf16) : k0_pay13 n = k0_pay9 n := rfl
theorem pay27_eq (n : Vec F S1x16x1x128 .bf16) : k0_pay27 (k0_pay24 n) k0_pay25 = k0_pay8 n := rfl
theorem pay28_eq (n : Vec F S1x16x1x128 .bf16) : k0_pay28 (k0_pay23 n) (k0_pay24 n) k0_pay25 = k0_pay9 n := rfl
theorem pay33_eq (n : Vec F S1x16x1x128 .bf16) : k0_pay33 (k0_pay30 n) k0_pay31 = k0_pay8 n := rfl
theorem pay34_eq (n : Vec F S1x16x1x128 .bf16) : k0_pay34 (k0_pay29 n) (k0_pay30 n) k0_pay31 = k0_pay9 n := rfl
theorem pay15_eq (q : FVec F S16x128 .fp8e4m3) : k0_pay15 q = k0_pay14 q := rfl
theorem pay17_eq (q : FVec F S16x1 .f32) : k0_pay17 q = k0_pay16 q := rfl
theorem pay35_eq (q : FVec F S16x128 .fp8e4m3) : k0_pay35 q = k0_pay14 q := rfl
theorem pay37_eq (q : FVec F S16x1 .f32) : k0_pay37 q = k0_pay16 q := rfl
theorem pay36_eq (n : Vec F S1x16x1x128 .bf16) : k0_pay36 (k0_pay29 n) (k0_pay30 n) k0_pay31 = k0_pay14 (k0_pay9 n) := rfl
theorem pay39_eq (n : Vec F S1x16x1x128 .bf16) : k0_pay39 (k0_pay38 (k0_pay30 n) k0_pay31) = k0_pay16 (k0_pay8 n) := rfl
theorem pay40_eq (s : FVec F S16x1 .f32) (q : FVec F S16x128 .fp8e4m3) : k0_pay40 s q = k0_pay18 s q := rfl
theorem pay42_eq (s : FVec F S16x1 .f32) (q : FVec F S16x128 .fp8e4m3) (X : Vec F S1x16x16x128 .bf16) (M : Vec F S16x256 .f32) : k0_pay42 s q X M = k0_pay21 (k0_pay19 s q X) M := rfl
theorem pay43_eq (s : FVec F S16x1 .f32) (q : FVec F S16x128 .fp8e4m3) (X : Vec F S1x16x16x128 .bf16) (M : Vec F S16x256 .f32) : k0_pay43 s q X M = k0_pay22 (k0_pay19 s q X) M := rfl
theorem pay5_eq (sn : Vec F S1x16x256 .f32) (m l : Vec F S1x1x256 .f32) (a : Vec F S1x128x256 .f32) (v : Vec F S1x16x128 .bf16) : k0_pay5 (k0_pay62 sn) m l a v = k0_pay61 sn m l a v := rfl

/-- A whole memref left by the stores `L`, which cover it, is owned at what `L` leaves. -/
theorem ownW (c : Dev nD) {sp : Space} {S : Shape} {e : EltTy} {m : Memref sig .tc sp S e} (w : m.IsWhole) (X : S.Idx → Elt F e)
    (L L' : List (View.Piece (Elt F) S e)) (h : L = L') (hc : ∀ y, ∃ p ∈ L', y ∈ p.1.set) :
    (m.view.loc (c : Thread nD τ) ↦[m.view.set]{fullShare} m.view.writes (Elt F) (w.unread X) L : sProp 𝕄) ⊢ owns (c : Thread nD τ) m fullShare (View.canon L') := by
  subst h
  unfold owns
  iintro H; iexists m.view.writes (Elt F) (w.unread X) L; isplitr
  · ipureintro; exact View.read_writes_eq_canon _ _ _ hc
  · iexact H

/-- An untouched whole memref is owned at what it held. -/
theorem ownU (c : Dev nD) {sp : Space} {S : Shape} {e : EltTy} {m : Memref sig .tc sp S e} (w : m.IsWhole) (X : S.Idx → Elt F e) :
    (m.view.loc (c : Thread nD τ) ↦[m.view.set]{fullShare} w.unread X : sProp 𝕄) ⊢ owns (c : Thread nD τ) m fullShare X := by
  unfold owns
  iintro H; iexists w.unread X; isplitr
  · ipureintro; exact w.read_unread X
  · iexact H

end Cert.Kernel.Hand
-- ==== Proof.BodyFirst.lean ====
/- The first part of the body (quantise the new tokens, start the running softmax) leaves the values named in `BodyValues`. -/
module

public import proofs.«01_k».proof.Proof.BodyValues

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem seg1_run (c : Dev nD) (R : Refs) (i : grid0.Coords)
 (x : Vec F S1x16x32x128 .bf16) (kn : Vec F S1x16x2x128 .bf16) (vn : Vec F S1x16x2x128 .bf16) (mk : Vec F S16x256 .f32) (b12 : Vec F S1x2x16x128 .fp8e4m3) (b13 : Vec F S1x2x16x128 .f32) (b14 : Vec F S1x2x16x128 .fp8e4m3) (b15 : Vec F S1x2x16x128 .f32) (sm : Vec F S2x1x256 .f32) (sl : Vec F S2x1x256 .f32) (sa : Vec F S2x128x256 .f32) (sn : Vec F S2x16x256 .f32) (sv : Vec F S2x16x128 .bf16) (E : Set ℕ) (K : PUnit → sProp 𝕄) :
    iprop(owns (c : Thread nD τ) R.r3 fullShare x ∗ owns (c : Thread nD τ) R.r4 fullShare kn ∗ owns (c : Thread nD τ) R.r5 fullShare vn ∗ owns (c : Thread nD τ) R.r10 fullShare mk ∗ owns (c : Thread nD τ) R.r12 fullShare b12 ∗ owns (c : Thread nD τ) R.r13 fullShare b13 ∗ owns (c : Thread nD τ) R.r14 fullShare b14 ∗ owns (c : Thread nD τ) R.r15 fullShare b15 ∗ owns (c : Thread nD τ) R.r16 fullShare sm ∗ owns (c : Thread nD τ) R.r17 fullShare sl ∗ owns (c : Thread nD τ) R.r18 fullShare sa ∗ owns (c : Thread nD τ) R.r19 fullShare sn ∗ owns (c : Thread nD τ) R.r20 fullShare sv
        ∗ (iprop(owns (c : Thread nD τ) R.r3 fullShare x ∗ owns (c : Thread nD τ) R.r4 fullShare kn ∗ owns (c : Thread nD τ) R.r5 fullShare vn ∗ owns (c : Thread nD τ) R.r10 fullShare mk ∗ owns (c : Thread nD τ) R.r12 fullShare (qcO kn) ∗ owns (c : Thread nD τ) R.r13 fullShare (qsO kn) ∗ owns (c : Thread nD τ) R.r14 fullShare (qcO vn) ∗ owns (c : Thread nD τ) R.r15 fullShare (qsO vn) ∗ owns (c : Thread nD τ) R.r16 fullShare (mIn x kn mk) ∗ owns (c : Thread nD τ) R.r17 fullShare (lIn ) ∗ owns (c : Thread nD τ) R.r18 fullShare (aIn ) ∗ owns (c : Thread nD τ) R.r19 fullShare (snO x kn mk) ∗ owns (c : Thread nD τ) R.r20 fullShare (vnO vn)) -∗ K ⟨⟩))
      ⊢ wp frame (wpE (defs₀ (F := F)) Variants.none c none) E (seg1 R i) K := by
  obtain ⟨r3, w3, r4, w4, r5, w5, r6, w6, r7, w7, r8, w8, r9, w9, r10, w10, r11, w11, r12, w12, r13, w13, r14, w14, r15, w15, r16, w16, r17, w17, r18, w18, r19, w19, r20, w20⟩ := R
  unfold seg1
  dsimp only
  simp only [k0_part1_eq_skeleton, k0_part2_eq_skeleton, k0_part3_eq_skeleton, k0_part4_eq_skeleton, k0_part5_eq_skeleton, k0_part6_eq_skeleton, k0_part7_eq_skeleton]
  iintro ⟨H3, H4, H5, H10, H12, H13, H14, H15, H16, H17, H18, H19, H20, Hk⟩
  unfold owns
  icases H3 with ⟨%f3, %h3, H3⟩; obtain rfl := w3.eq_unread h3
  icases H4 with ⟨%f4, %h4, H4⟩; obtain rfl := w4.eq_unread h4
  icases H5 with ⟨%f5, %h5, H5⟩; obtain rfl := w5.eq_unread h5
  icases H10 with ⟨%f10, %h10, H10⟩; obtain rfl := w10.eq_unread h10
  icases H12 with ⟨%f12, %h12, H12⟩; obtain rfl := w12.eq_unread h12
  icases H13 with ⟨%f13, %h13, H13⟩; obtain rfl := w13.eq_unread h13
  icases H14 with ⟨%f14, %h14, H14⟩; obtain rfl := w14.eq_unread h14
  icases H15 with ⟨%f15, %h15, H15⟩; obtain rfl := w15.eq_unread h15
  icases H16 with ⟨%f16, %h16, H16⟩; obtain rfl := w16.eq_unread h16
  icases H17 with ⟨%f17, %h17, H17⟩; obtain rfl := w17.eq_unread h17
  icases H18 with ⟨%f18, %h18, H18⟩; obtain rfl := w18.eq_unread h18
  icases H19 with ⟨%f19, %h19, H19⟩; obtain rfl := w19.eq_unread h19
  icases H20 with ⟨%f20, %h20, H20⟩; obtain rfl := w20.eq_unread h20
  sl_exec
  sl_step
  iapply Hk
  isplitl [H3]
  · ihave H := (ownU c w3 _) $$ H3; unfold owns; iexact H
  isplitl [H4]
  · ihave H := (ownU c w4 _) $$ H4; unfold owns; iexact H
  isplitl [H5]
  · ihave H := (ownU c w5 _) $$ H5; unfold owns; iexact H
  isplitl [H10]
  · ihave H := (ownU c w10 _) $$ H10; unfold owns; iexact H
  isplitl [H12]
  · ihave H := (ownW c w12 _ _ (qcOL kn) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x1x16x128.size (by sl_kernel_rfl))) $$ H12; unfold owns; iexact H
  isplitl [H13]
  · ihave H := (ownW c w13 _ _ (qsOL kn) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x1x16x128.size (by sl_kernel_rfl))) $$ H13; unfold owns; iexact H
  isplitl [H14]
  · ihave H := (ownW c w14 _ _ (qcOL vn) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x1x16x128.size (by sl_kernel_rfl))) $$ H14; unfold owns; iexact H
  isplitl [H15]
  · ihave H := (ownW c w15 _ _ (qsOL vn) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x1x16x128.size (by sl_kernel_rfl))) $$ H15; unfold owns; iexact H
  isplitl [H16]
  · ihave H := (ownW c w16 _ _ (mInL x kn mk) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x1x256.size (by sl_kernel_rfl))) $$ H16; unfold owns; iexact H
  isplitl [H17]
  · ihave H := (ownW c w17 _ _ (lInL ) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S2x1x256.size (by sl_kernel_rfl))) $$ H17; unfold owns; iexact H
  isplitl [H18]
  · ihave H := (ownW c w18 _ _ (aInL ) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S2x128x256.size (by sl_kernel_rfl))) $$ H18; unfold owns; iexact H
  isplitl [H19]
  · ihave H := (ownW c w19 _ _ (snOL x kn mk) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x16x256.size (by sl_kernel_rfl))) $$ H19; unfold owns; iexact H
  ihave H := (ownW c w20 _ _ (vnOL vn) (by (try delta seg1_run.sl.r seg1_run.sl.r_1 seg1_run.sl.r_2 seg1_run.sl.r_3 seg1_run.sl.r_4 seg1_run.sl.r_5 seg1_run.sl.r_6 seg1_run.sl.r_7 seg1_run.sl.r_8 seg1_run.sl.r_9 seg1_run.sl.r_10 seg1_run.sl.r_11 seg1_run.sl.r_12 seg1_run.sl.r_13); (try simp only [rd, pay12_eq, pay13_eq, pay27_eq, pay28_eq, pay33_eq, pay34_eq, pay15_eq, pay17_eq, pay35_eq, pay37_eq, pay36_eq, pay39_eq, pay40_eq, pay42_eq, pay43_eq]); rfl) (View.cover_of_tiledL _ S1x16x128.size (by sl_kernel_rfl))) $$ H20; unfold owns; iexact H

end Cert.Kernel.Hand
-- ==== Proof.BodyBlock.lean ====
/- The second part of the body (one block of the cache) leaves the values named in `BodyValues`. -/
module

public import proofs.«01_k».proof.Proof.BodyValues

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem seg2_run (c : Dev nD) (R : Refs) (i : grid0.Coords) (a1 : BitVec 32) (v1 : Elt F .i32)
 (x : Vec F S1x16x32x128 .bf16) (kc : Vec F S1x2x512x128 .fp8e4m3) (ks : Vec F S1x2x512 .f32) (vc : Vec F S1x2x512x128 .fp8e4m3) (vs : Vec F S1x2x512 .f32) (sm : Vec F S2x1x256 .f32) (sl : Vec F S2x1x256 .f32) (sa : Vec F S2x128x256 .f32) (E : Set ℕ) (K : PUnit → sProp 𝕄) :
    iprop(owns (c : Thread nD τ) R.r3 fullShare x ∗ owns (c : Thread nD τ) R.r6 fullShare kc ∗ owns (c : Thread nD τ) R.r7 fullShare ks ∗ owns (c : Thread nD τ) R.r8 fullShare vc ∗ owns (c : Thread nD τ) R.r9 fullShare vs ∗ owns (c : Thread nD τ) R.r16 fullShare sm ∗ owns (c : Thread nD τ) R.r17 fullShare sl ∗ owns (c : Thread nD τ) R.r18 fullShare sa
        ∗ (iprop(owns (c : Thread nD τ) R.r3 fullShare x ∗ owns (c : Thread nD τ) R.r6 fullShare kc ∗ owns (c : Thread nD τ) R.r7 fullShare ks ∗ owns (c : Thread nD τ) R.r8 fullShare vc ∗ owns (c : Thread nD τ) R.r9 fullShare vs ∗ owns (c : Thread nD τ) R.r16 fullShare (mUp a1 v1 x kc ks sm) ∗ owns (c : Thread nD τ) R.r17 fullShare (lUp a1 v1 x kc ks sm sl) ∗ owns (c : Thread nD τ) R.r18 fullShare (aUp a1 v1 x kc ks vc vs sm sa)) -∗ K ⟨⟩))
      ⊢ wp frame (wpE (defs₀ (F := F)) Variants.none c none) E (seg2 R i a1 v1) K := by
  obtain ⟨r3, w3, r4, w4, r5, w5, r6, w6, r7, w7, r8, w8, r9, w9, r10, w10, r11, w11, r12, w12, r13, w13, r14, w14, r15, w15, r16, w16, r17, w17, r18, w18, r19, w19, r20, w20⟩ := R
  unfold seg2
  dsimp only
  simp only [k0_part8_eq_skeleton, k0_part9_eq_skeleton, k0_part10_eq_skeleton]
  iintro ⟨H3, H6, H7, H8, H9, H16, H17, H18, Hk⟩
  unfold owns
  icases H3 with ⟨%f3, %h3, H3⟩; obtain rfl := w3.eq_unread h3
  icases H6 with ⟨%f6, %h6, H6⟩; obtain rfl := w6.eq_unread h6
  icases H7 with ⟨%f7, %h7, H7⟩; obtain rfl := w7.eq_unread h7
  icases H8 with ⟨%f8, %h8, H8⟩; obtain rfl := w8.eq_unread h8
  icases H9 with ⟨%f9, %h9, H9⟩; obtain rfl := w9.eq_unread h9
  icases H16 with ⟨%f16, %h16, H16⟩; obtain rfl := w16.eq_unread h16
  icases H17 with ⟨%f17, %h17, H17⟩; obtain rfl := w17.eq_unread h17
  icases H18 with ⟨%f18, %h18, H18⟩; obtain rfl := w18.eq_unread h18
  sl_exec
  sl_step
  iapply Hk
  isplitl [H3]
  · ihave H := (ownU c w3 _) $$ H3; unfold owns; iexact H
  isplitl [H6]
  · ihave H := (ownU c w6 _) $$ H6; unfold owns; iexact H
  isplitl [H7]
  · ihave H := (ownU c w7 _) $$ H7; unfold owns; iexact H
  isplitl [H8]
  · ihave H := (ownU c w8 _) $$ H8; unfold owns; iexact H
  isplitl [H9]
  · ihave H := (ownU c w9 _) $$ H9; unfold owns; iexact H
  isplitl [H16]
  · ihave H := (ownW c w16 _ _ (mUpL a1 v1 x kc ks sm) (by (try delta seg2_run.sl.r seg2_run.sl.r_1 seg2_run.sl.r_2 seg2_run.sl.r_3 seg2_run.sl.r_4 seg2_run.sl.r_5 seg2_run.sl.r_6 seg2_run.sl.v101 seg2_run.sl.v114 seg2_run.sl.v123 seg2_run.sl.v132); simp only [rd, pay58_eq, pay59_eq, pay4_eq]; rfl) (View.cover_of_tiledL _ S1x1x256.size (by sl_kernel_rfl))) $$ H16; unfold owns; iexact H
  isplitl [H17]
  · ihave H := (ownW c w17 _ _ (lUpL a1 v1 x kc ks sm sl) (by (try delta seg2_run.sl.r seg2_run.sl.r_1 seg2_run.sl.r_2 seg2_run.sl.r_3 seg2_run.sl.r_4 seg2_run.sl.r_5 seg2_run.sl.r_6 seg2_run.sl.v101 seg2_run.sl.v114 seg2_run.sl.v123 seg2_run.sl.v132); simp only [rd, pay58_eq, pay59_eq, pay4_eq]; rfl) (View.cover_of_tiledL _ S1x1x256.size (by sl_kernel_rfl))) $$ H17; unfold owns; iexact H
  ihave H := (ownW c w18 _ _ (aUpL a1 v1 x kc ks vc vs sm sa) (by (try delta seg2_run.sl.r seg2_run.sl.r_1 seg2_run.sl.r_2 seg2_run.sl.r_3 seg2_run.sl.r_4 seg2_run.sl.r_5 seg2_run.sl.r_6 seg2_run.sl.v101 seg2_run.sl.v114 seg2_run.sl.v123 seg2_run.sl.v132); simp only [rd, pay58_eq, pay59_eq, pay4_eq]; rfl) (View.cover_of_tiledL _ S1x128x256.size (by sl_kernel_rfl))) $$ H18; unfold owns; iexact H

end Cert.Kernel.Hand
-- ==== Proof.BodyLast.lean ====
/- The last part of the body (the attention output) leaves the value named in `BodyValues`. -/
module

public import proofs.«01_k».proof.Proof.BodyValues

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 2000000 in
theorem seg3_run (c : Dev nD) (R : Refs) (i : grid0.Coords)
 (b11 : Vec F S1x16x32x128 .bf16) (sm : Vec F S2x1x256 .f32) (sl : Vec F S2x1x256 .f32) (sa : Vec F S2x128x256 .f32) (sn : Vec F S2x16x256 .f32) (sv : Vec F S2x16x128 .bf16) (E : Set ℕ) (K : PUnit → sProp 𝕄) :
    iprop(owns (c : Thread nD τ) R.r11 fullShare b11 ∗ owns (c : Thread nD τ) R.r16 fullShare sm ∗ owns (c : Thread nD τ) R.r17 fullShare sl ∗ owns (c : Thread nD τ) R.r18 fullShare sa ∗ owns (c : Thread nD τ) R.r19 fullShare sn ∗ owns (c : Thread nD τ) R.r20 fullShare sv
        ∗ (iprop(owns (c : Thread nD τ) R.r11 fullShare (atO sm sl sa sn sv) ∗ owns (c : Thread nD τ) R.r16 fullShare sm ∗ owns (c : Thread nD τ) R.r17 fullShare sl ∗ owns (c : Thread nD τ) R.r18 fullShare sa ∗ owns (c : Thread nD τ) R.r19 fullShare sn ∗ owns (c : Thread nD τ) R.r20 fullShare sv) -∗ K ⟨⟩))
      ⊢ wp frame (wpE (defs₀ (F := F)) Variants.none c none) E (seg3 R i) K := by
  obtain ⟨r3, w3, r4, w4, r5, w5, r6, w6, r7, w7, r8, w8, r9, w9, r10, w10, r11, w11, r12, w12, r13, w13, r14, w14, r15, w15, r16, w16, r17, w17, r18, w18, r19, w19, r20, w20⟩ := R
  unfold seg3
  dsimp only
  simp only [k0_part11_eq_skeleton]
  iintro ⟨H11, H16, H17, H18, H19, H20, Hk⟩
  unfold owns
  icases H11 with ⟨%f11, %h11, H11⟩; obtain rfl := w11.eq_unread h11
  icases H16 with ⟨%f16, %h16, H16⟩; obtain rfl := w16.eq_unread h16
  icases H17 with ⟨%f17, %h17, H17⟩; obtain rfl := w17.eq_unread h17
  icases H18 with ⟨%f18, %h18, H18⟩; obtain rfl := w18.eq_unread h18
  icases H19 with ⟨%f19, %h19, H19⟩; obtain rfl := w19.eq_unread h19
  icases H20 with ⟨%f20, %h20, H20⟩; obtain rfl := w20.eq_unread h20
  sl_exec
  sl_step
  iapply Hk
  isplitl [H11]
  · ihave H := (ownW c w11 _ _ (atOL sm sl sa sn sv) (by (try delta seg3_run.sl.r seg3_run.sl.r_1); simp only [rd, pay5_eq]; rfl) (View.cover_of_tiledL _ S1x16x16x128.size (by sl_kernel_rfl))) $$ H11; unfold owns; iexact H
  isplitl [H16]
  · ihave H := (ownU c w16 _) $$ H16; unfold owns; iexact H
  isplitl [H17]
  · ihave H := (ownU c w17 _) $$ H17; unfold owns; iexact H
  isplitl [H18]
  · ihave H := (ownU c w18 _) $$ H18; unfold owns; iexact H
  isplitl [H19]
  · ihave H := (ownU c w19 _) $$ H19; unfold owns; iexact H
  ihave H := (ownU c w20 _) $$ H20; unfold owns; iexact H

end Cert.Kernel.Hand
-- ==== Proof.BodyRun.lean ====
/- The three parts together: one call of the body. -/
module

public import proofs.«01_k».proof.Proof.BodyFirst
public import proofs.«01_k».proof.Proof.BodyBlock
public import proofs.«01_k».proof.Proof.BodyLast

@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a point reads: the blocks of the eight input windows. -/
structure Ins (F : FTy → Type) where
  x : Vec F S1x16x32x128 .bf16
  kn : Vec F S1x16x2x128 .bf16
  vn : Vec F S1x16x2x128 .bf16
  kc : Vec F S1x2x512x128 .fp8e4m3
  ks : Vec F S1x2x512 .f32
  vc : Vec F S1x2x512x128 .fp8e4m3
  vs : Vec F S1x2x512 .f32
  ms : Vec F S16x256 .f32

/-- What the five output windows hold. -/
structure Outs (F : FTy → Type) where
  o : Vec F S1x16x32x128 .bf16
  kq : Vec F S1x2x16x128 .fp8e4m3
  kf : Vec F S1x2x16x128 .f32
  vq : Vec F S1x2x16x128 .fp8e4m3
  vf : Vec F S1x2x16x128 .f32

/-- What the five scratch buffers hold. -/
structure St (F : FTy → Type) where
  m : Vec F S2x1x256 .f32
  l : Vec F S2x1x256 .f32
  a : Vec F S2x128x256 .f32
  sn : Vec F S2x16x256 .f32
  sv : Vec F S2x16x128 .bf16

/-- The scratch at a batch's first point. -/
def St.start (b : Ins F) : St F := ⟨mIn b.x b.kn b.ms, lIn, aIn, snO b.x b.kn b.ms, vnO b.vn⟩
/-- The scratch after a live block. -/
def St.live (a1 : BitVec 32) (v1 : Elt F .i32) (b : Ins F) (s : St F) : St F :=
  ⟨mUp a1 v1 b.x b.kc b.ks s.m, lUp a1 v1 b.x b.kc b.ks s.m s.l, aUp a1 v1 b.x b.kc b.ks b.vc b.vs s.m s.a, s.sn, s.sv⟩

def ownI (c : Dev nD) (R : Refs) (b : Ins F) : sProp 𝕄 :=
  iprop(owns (c : Thread nD τ) R.r3 fullShare b.x ∗ owns (c : Thread nD τ) R.r4 fullShare b.kn ∗ owns (c : Thread nD τ) R.r5 fullShare b.vn
    ∗ owns (c : Thread nD τ) R.r6 fullShare b.kc ∗ owns (c : Thread nD τ) R.r7 fullShare b.ks ∗ owns (c : Thread nD τ) R.r8 fullShare b.vc
    ∗ owns (c : Thread nD τ) R.r9 fullShare b.vs ∗ owns (c : Thread nD τ) R.r10 fullShare b.ms)
def ownO (c : Dev nD) (R : Refs) (b : Outs F) : sProp 𝕄 :=
  iprop(owns (c : Thread nD τ) R.r11 fullShare b.o ∗ owns (c : Thread nD τ) R.r12 fullShare b.kq ∗ owns (c : Thread nD τ) R.r13 fullShare b.kf
    ∗ owns (c : Thread nD τ) R.r14 fullShare b.vq ∗ owns (c : Thread nD τ) R.r15 fullShare b.vf)
def ownS (c : Dev nD) (R : Refs) (s : St F) : sProp 𝕄 :=
  iprop(owns (c : Thread nD τ) R.r16 fullShare s.m ∗ owns (c : Thread nD τ) R.r17 fullShare s.l ∗ owns (c : Thread nD τ) R.r18 fullShare s.a
    ∗ owns (c : Thread nD τ) R.r19 fullShare s.sn ∗ owns (c : Thread nD τ) R.r20 fullShare s.sv)

open Classical in
/-- The scratch after a batch's first point's first part, when the point is one. -/
def St.s1 (i : grid0.Coords) (b : Ins F) (s : St F) : St F := if k0_cond1 i = 1#1 then St.start b else s
open Classical in
def Outs.s1 (i : grid0.Coords) (b : Ins F) (o : Outs F) : Outs F :=
  if k0_cond1 i = 1#1 then ⟨o.o, qcO b.kn, qsO b.kn, qcO b.vn, qsO b.vn⟩ else o
/-- Whether the point's block holds tokens of the batch, whose length is `v1`. -/
abbrev liveC (i : grid0.Coords) (v1 : BitVec 32) : Prop :=
  Scalar.cmpi .ne (Scalar.extui (Scalar.cmpi .slt (Scalar.muli (BitVec.ofNat 32 (i 1).val) 512#32) v1) : BitVec 32) 0#32 = 1#1
open Classical in
def St.s2 (i : grid0.Coords) (v1 : Elt F .i32) (b : Ins F) (s : St F) : St F :=
  if liveC i v1 then St.live (BitVec.ofNat 32 (i 1).val) v1 b s else s
open Classical in
def Outs.s3 (i : grid0.Coords) (s : St F) (o : Outs F) : Outs F :=
  if k0_cond3 i = 1#1 then ⟨atO s.m s.l s.a s.sn s.sv, o.kq, o.kf, o.vq, o.vf⟩ else o

theorem seg1_opt (c : Dev nD) (R : Refs) (i : grid0.Coords) (b : Ins F) (o : Outs F) (s : St F) (E : Set ℕ) (K : PUnit → sProp 𝕄) :
    iprop(ownI c R b ∗ ownO c R o ∗ ownS c R s ∗ (iprop(ownI c R b ∗ ownO c R (o.s1 i b) ∗ ownS c R (s.s1 i b)) -∗ K ⟨⟩))
      ⊢ wp frame (wpE (defs₀ (F := F)) Variants.none c none) E (if k0_cond1 i = 1#1 then seg1 R i else pure ⟨⟩) K := by
  unfold Outs.s1 St.s1
  split
  · unfold ownI ownO ownS
    iintro ⟨⟨H3, H4, H5, H6, H7, H8, H9, H10⟩, ⟨H11, H12, H13, H14, H15⟩, ⟨H16, H17, H18, H19, H20⟩, Hk⟩
    iapply (seg1_run c R i b.x b.kn b.vn b.ms o.kq o.kf o.vq o.vf s.m s.l s.a s.sn s.sv E K)
    iframe
    iintro ⟨H3, H4, H5, H10, H12, H13, H14, H15, H16, H17, H18, H19, H20⟩
    iapply Hk
    unfold St.start
    dsimp only
    iframe
  · iintro ⟨H1, H2, H3, Hk⟩
    sl_step
    iapply Hk
    iframe

theorem seg2_opt (c : Dev nD) (R : Refs) (i : grid0.Coords) (v1 : Elt F .i32) (b : Ins F) (o : Outs F) (s : St F) (E : Set ℕ) (K : PUnit → sProp 𝕄) :
    iprop(ownI c R b ∗ ownO c R o ∗ ownS c R s ∗ (iprop(ownI c R b ∗ ownO c R o ∗ ownS c R (s.s2 i v1 b)) -∗ K ⟨⟩))
      ⊢ wp frame (wpE (defs₀ (F := F)) Variants.none c none) E (if liveC i v1 then seg2 R i (BitVec.ofNat 32 (i 1).val) v1 else pure ⟨⟩) K := by
  unfold St.s2
  split
  · unfold ownI ownO ownS
    iintro ⟨⟨H3, H4, H5, H6, H7, H8, H9, H10⟩, ⟨H11, H12, H13, H14, H15⟩, ⟨H16, H17, H18, H19, H20⟩, Hk⟩
    iapply (seg2_run c R i _ v1 b.x b.kc b.ks b.vc b.vs s.m s.l s.a E K)
    iframe
    iintro ⟨H3, H6, H7, H8, H9, H16, H17, H18⟩
    iapply Hk
    unfold St.live
    dsimp only
    iframe
  · iintro ⟨H1, H2, H3, Hk⟩
    sl_step
    iapply Hk
    iframe

theorem seg3_opt (c : Dev nD) (R : Refs) (i : grid0.Coords) (b : Ins F) (o : Outs F) (s : St F) (E : Set ℕ) (K : PUnit → sProp 𝕄) :
    iprop(ownI c R b ∗ ownO c R o ∗ ownS c R s ∗ (iprop(ownI c R b ∗ ownO c R (o.s3 i s) ∗ ownS c R s) -∗ K ⟨⟩))
      ⊢ wp frame (wpE (defs₀ (F := F)) Variants.none c none) E (if k0_cond3 i = 1#1 then seg3 R i else pure ⟨⟩) K := by
  unfold Outs.s3
  split
  · unfold ownI ownO ownS
    iintro ⟨⟨H3, H4, H5, H6, H7, H8, H9, H10⟩, ⟨H11, H12, H13, H14, H15⟩, ⟨H16, H17, H18, H19, H20⟩, Hk⟩
    iapply (seg3_run c R i o.o s.m s.l s.a s.sn s.sv E K)
    iframe
    iintro ⟨H11, H16, H17, H18, H19, H20⟩
    iapply Hk
    iframe
  · iintro ⟨H1, H2, H3, Hk⟩
    sl_step
    iapply Hk
    iframe

/-- The length of the batch of coordinates `i`, read off the table. -/
def word (c : Dev nD) (i : grid0.Coords) (T : TbBuf0 (F := F) c tbM0_0) : Elt F .i32 :=
  tbM0_0.view.readAt (Elt F) (Rect.unit (s := S32) (k0_off1 i) S1.size (k0_off1_inb i)).toLoadRect T (Shape.Idx.first (numel1_S1.symm ▸ Nat.one_pos))

/-- The body as its load and its three conditional parts. -/
theorem body_eq' (R : Refs) (i : grid0.Coords) :
    cc0_tree_attn (F := F) i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20
      = (smemLoad tbM0_0 (Rect.unit (s := S32) (k0_off1 i) S1.size (k0_off1_inb i)) numel1_S1 rfl : Prog (TpuEff nD τ sig (Elt F) Λ₀ .tc) (Elt F .i32)) >>= fun v1 => (if k0_cond1 i = 1#1 then seg1 R i else pure ⟨⟩) >>= fun _ =>
        (if liveC i v1 then seg2 R i (BitVec.ofNat 32 (i 1).val) v1 else pure ⟨⟩) >>= fun _ => (if k0_cond3 i = 1#1 then seg3 R i else pure ⟨⟩) >>= fun _ => pure ⟨⟩ := by
  rw [body_eq]
  refine congrArg (fun k => (smemLoad tbM0_0 (Rect.unit (s := S32) (k0_off1 i) S1.size (k0_off1_inb i)) numel1_S1 rfl : Prog (TpuEff nD τ sig (Elt F) Λ₀ .tc) (Elt F .i32)) >>= k) (funext fun v1 => ?_)
  dsimp only
  split_ifs <;> rfl

theorem word_run (c : Dev nD) (i : grid0.Coords) (T : TbBuf0 (F := F) c tbM0_0) (E : Set ℕ) (K : Elt F .i32 → sProp 𝕄) :
    iprop(tbPt0 c tbM0_0 T ∗ (tbPt0 c tbM0_0 T -∗ K (word c i T)))
      ⊢ wp frame (wpE (defs₀ (F := F)) Variants.none c none) E (smemLoad tbM0_0 (Rect.unit (s := S32) (k0_off1 i) S1.size (k0_off1_inb i)) numel1_S1 rfl : Prog (TpuEff nD τ sig (Elt F) Λ₀ .tc) (Elt F .i32)) K := by
  unfold word
  iintro ⟨HT, Hk⟩
  sl_exec
  sl_step
  iapply Hk
  iexact HT

/-- THE BODY at any point: what it leaves in every buffer. -/
theorem body_run (c : Dev nD) (R : Refs) (i : grid0.Coords) (T : TbBuf0 (F := F) c tbM0_0) (b : Ins F) (o : Outs F) (s : St F) (E : Set ℕ) (K : PUnit → sProp 𝕄) :
    iprop(ownI c R b ∗ ownO c R o ∗ ownS c R s ∗ tbPt0 c tbM0_0 T
        ∗ (iprop(ownI c R b ∗ ownO c R ((o.s1 i b).s3 i ((s.s1 i b).s2 i (word c i T) b)) ∗ ownS c R ((s.s1 i b).s2 i (word c i T) b) ∗ tbPt0 c tbM0_0 T) -∗ K ⟨⟩))
      ⊢ wp frame (wpE (defs₀ (F := F)) Variants.none c none) E
        (cc0_tree_attn i tbM0_0 htbM0_0 R.r3 R.w3 R.r4 R.w4 R.r5 R.w5 R.r6 R.w6 R.r7 R.w7 R.r8 R.w8 R.r9 R.w9 R.r10 R.w10 R.r11 R.w11 R.r12 R.w12 R.r13 R.w13 R.r14 R.w14 R.r15 R.w15 R.r16 R.w16 R.r17 R.w17 R.r18 R.w18 R.r19 R.w19 R.r20 R.w20) K := by
  rw [body_eq', wp_bind]
  iintro ⟨HI, HO, HS, HT, Hk⟩
  iapply (word_run c i T E _)
  iframe HT
  iintro HT
  rw [wp_bind]
  iapply (seg1_opt c R i b o s E _)
  iframe HI HO HS
  iintro ⟨HI, HO, HS⟩
  rw [wp_bind]
  iapply (seg2_opt c R i (word c i T) b _ _ E _)
  iframe HI HO HS
  iintro ⟨HI, HO, HS⟩
  rw [wp_bind]
  iapply (seg3_opt c R i b _ _ E _)
  iframe HI HO HS
  iintro ⟨HI, HO, HS⟩
  sl_step
  iapply Hk
  iframe

end Cert.Kernel.Hand
-- ==== Proof.Run.lean ====
/- The whole run of the kernel program: its arrays and results, its unchanged arguments, its counters at zero. -/
module
public import proofs.«01_k».proof.Proof.BodyRun
public import Idealize.ShloMosaic.Lib.Pipeline.TableIdle
@[expose] public section

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-- The staging buffers and the scratch at point `t`. -/
def refs (hO : Ok m) (t : Fin (cfgM m hO).N) : Refs :=
  ⟨ms0_0 m hO t, hs0_0 m hO t, ms0_1 m hO t, hs0_1 m hO t, ms0_2 m hO t, hs0_2 m hO t, ms0_3 m hO t, hs0_3 m hO t, ms0_4 m hO t, hs0_4 m hO t,
   ms0_5 m hO t, hs0_5 m hO t, ms0_6 m hO t, hs0_6 m hO t, ms0_7 m hO t, hs0_7 m hO t, ms0_8 m hO t, hs0_8 m hO t, ms0_9 m hO t, hs0_9 m hO t,
   ms0_10 m hO t, hs0_10 m hO t, ms0_11 m hO t, hs0_11 m hO t, ms0_12 m hO t, hs0_12 m hO t,
   scM0_0, Memref.isWhole_whole _, scM0_1, Memref.isWhole_whole _, scM0_2, Memref.isWhole_whole _, scM0_3, Memref.isWhole_whole _, scM0_4, Memref.isWhole_whole _⟩

/-- The input blocks at point `t`. -/
def insAt (hO : Ok m) (c : Dev nD) (t : Fin (cfgM m hO).N) : Ins F :=
  ⟨iblk m hO c 0 t, iblk m hO c 1 t, iblk m hO c 2 t, iblk m hO c 3 t, iblk m hO c 4 t, iblk m hO c 5 t, iblk m hO c 6 t, iblk m hO c 7 t⟩

/-- The scratch after point `t`, from what it held before it. -/
def stepS (hO : Ok m) (c : Dev nD) (t : Fin (cfgM m hO).N) (s : St F) : St F :=
  (s.s1 (grid0.coords t) (insAt m hO c t)).s2 (grid0.coords t) (word c (grid0.coords t) (tbl m 0)) (insAt m hO c t)

/-- The scratch after point `n`. -/
def stA (hO : Ok m) (c : Dev nD) : ℕ → St F
  | 0 => stepS m hO c ⟨0, by rw [show (cfgM m hO).N = 256 from N_0]; decide⟩ (St.start (insAt m hO c ⟨0, by rw [show (cfgM m hO).N = 256 from N_0]; decide⟩))
  | n + 1 => if h : n + 1 < (cfgM m hO).N then stepS m hO c ⟨n + 1, h⟩ (stA hO c n) else stA hO c n

/-- The first point of the batch of point `t`. -/
def base (hO : Ok m) (t : Fin (cfgM m hO).N) : Fin (cfgM m hO).N := ⟨t.val - t.val % 8, Nat.lt_of_le_of_lt (Nat.sub_le _ _) t.isLt⟩

def PhiH (hO : Ok m) (c : Dev nD) (n : ℕ) : sProp 𝕄 :=
  iprop(∃ s : St F, ⌜n ≠ 0 → s = stA m hO c (n - 1)⌝ ∗ ((owns (c : Thread nD τ) scM0_0 fullShare s.m ∗ owns (c : Thread nD τ) scM0_1 fullShare s.l ∗ owns (c : Thread nD τ) scM0_2 fullShare s.a
    ∗ owns (c : Thread nD τ) scM0_3 fullShare s.sn ∗ owns (c : Thread nD τ) scM0_4 fullShare s.sv) ∗ (∃ r, prngReg c r)) ∗ tbPt0 c tbM0_0 (tbl m 0))

/-- The proof data: what every window's buffer holds after each point. -/
def DV (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => iblk m hO c 7 t
    | ⟨8, _⟩ => atO (stA m hO c t.val).m (stA m hO c t.val).l (stA m hO c t.val).a (stA m hO c t.val).sn (stA m hO c t.val).sv
    | ⟨9, _⟩ => qcO (iblk m hO c 1 (base m hO t))
    | ⟨10, _⟩ => qsO (iblk m hO c 1 (base m hO t))
    | ⟨11, _⟩ => qcO (iblk m hO c 2 (base m hO t))
    | ⟨12, _⟩ => qsO (iblk m hO c 2 (base m hO t))
  Φ t := PhiH m hO c t.val
  q _ := fullShare
  owed _ := 0

theorem DV_A (hO : Ok m) (c : Dev nD) (w : Fin (cfgM m hO).W) : (DV m hO 0 c).A w = V m c (Pipeline.arrRef spec0 w) := by
  dsimp only [DV]

theorem befI_0 (hO : Ok m) (c : Dev nD) (t : Fin (cfgM m hO).N) (d) : (DV m hO 0 c).before 0 t d = iblk m hO c 0 t :=
  ((DV m hO 0 c).before_in_eq_fetched 0 rfl (fun _ => rfl) (fun _ _ _ => rfl) (fun t => by rw [show (DV m hO 0 c).after 0 t = iblk m hO c 0 t from by dsimp only [DV]; try rfl]; unfold Dat.blockOf iblk; rw [DV_A]; try rfl) t d).trans
    (by unfold Dat.fetched Dat.blockOf iblk; rw [DV_A]; try rfl)
theorem befI_1 (hO : Ok m) (c : Dev nD) (t : Fin (cfgM m hO).N) (d) : (DV m hO 0 c).before 1 t d = iblk m hO c 1 t :=
  ((DV m hO 0 c).before_in_eq_fetched 1 rfl (fun _ => rfl) (fun _ _ _ => rfl) (fun t => by rw [show (DV m hO 0 c).after 1 t = iblk m hO c 1 t from by dsimp only [DV]; try rfl]; unfold Dat.blockOf iblk; rw [DV_A]; try rfl) t d).trans
    (by unfold Dat.fetched Dat.blockOf iblk; rw [DV_A]; try rfl)
theorem befI_2 (hO : Ok m) (c : Dev nD) (t : Fin (cfgM m hO).N) (d) : (DV m hO 0 c).before 2 t d = iblk m hO c 2 t :=
  ((DV m hO 0 c).before_in_eq_fetched 2 rfl (fun _ => rfl) (fun _ _ _ => rfl) (fun t => by rw [show (DV m hO 0 c).after 2 t = iblk m hO c 2 t from by dsimp only [DV]; try rfl]; unfold Dat.blockOf iblk; rw [DV_A]; try rfl) t d).trans
    (by unfold Dat.fetched Dat.blockOf iblk; rw [DV_A]; try rfl)
theorem befI_3 (hO : Ok m) (c : Dev nD) (t : Fin (cfgM m hO).N) (d) : (DV m hO 0 c).before 3 t d = iblk m hO c 3 t :=
  ((DV m hO 0 c).before_in_eq_fetched 3 rfl (fun _ => rfl) (fun _ _ _ => rfl) (fun t => by rw [show (DV m hO 0 c).after 3 t = iblk m hO c 3 t from by dsimp only [DV]; try rfl]; unfold Dat.blockOf iblk; rw [DV_A]; try rfl) t d).trans
    (by unfold Dat.fetched Dat.blockOf iblk; rw [DV_A]; try rfl)
theorem befI_4 (hO : Ok m) (c : Dev nD) (t : Fin (cfgM m hO).N) (d) : (DV m hO 0 c).before 4 t d = iblk m hO c 4 t :=
  ((DV m hO 0 c).before_in_eq_fetched 4 rfl (fun _ => rfl) (fun _ _ _ => rfl) (fun t => by rw [show (DV m hO 0 c).after 4 t = iblk m hO c 4 t from by dsimp only [DV]; try rfl]; unfold Dat.blockOf iblk; rw [DV_A]; try rfl) t d).trans
    (by unfold Dat.fetched Dat.blockOf iblk; rw [DV_A]; try rfl)
theorem befI_5 (hO : Ok m) (c : Dev nD) (t : Fin (cfgM m hO).N) (d) : (DV m hO 0 c).before 5 t d = iblk m hO c 5 t :=
  ((DV m hO 0 c).before_in_eq_fetched 5 rfl (fun _ => rfl) (fun _ _ _ => rfl) (fun t => by rw [show (DV m hO 0 c).after 5 t = iblk m hO c 5 t from by dsimp only [DV]; try rfl]; unfold Dat.blockOf iblk; rw [DV_A]; try rfl) t d).trans
    (by unfold Dat.fetched Dat.blockOf iblk; rw [DV_A]; try rfl)
theorem befI_6 (hO : Ok m) (c : Dev nD) (t : Fin (cfgM m hO).N) (d) : (DV m hO 0 c).before 6 t d = iblk m hO c 6 t :=
  ((DV m hO 0 c).before_in_eq_fetched 6 rfl (fun _ => rfl) (fun _ _ _ => rfl) (fun t => by rw [show (DV m hO 0 c).after 6 t = iblk m hO c 6 t from by dsimp only [DV]; try rfl]; unfold Dat.blockOf iblk; rw [DV_A]; try rfl) t d).trans
    (by unfold Dat.fetched Dat.blockOf iblk; rw [DV_A]; try rfl)
theorem befI_7 (hO : Ok m) (c : Dev nD) (t : Fin (cfgM m hO).N) (d) : (DV m hO 0 c).before 7 t d = iblk m hO c 7 t :=
  ((DV m hO 0 c).before_in_eq_fetched 7 rfl (fun _ => rfl) (fun _ _ _ => rfl) (fun t => by rw [show (DV m hO 0 c).after 7 t = iblk m hO c 7 t from by dsimp only [DV]; try rfl]; unfold Dat.blockOf iblk; rw [DV_A]; try rfl) t d).trans
    (by unfold Dat.fetched Dat.blockOf iblk; rw [DV_A]; try rfl)

theorem idle_first {w : Fin 13} (hw : w.val ∈ [9, 10, 11, 12]) (hO : Ok m) (t : Fin (cfgM m hO).N) : (cfgM m hO).idle w (grid0.coords t) = !decide (t.val % 8 = 0) := by
  have e : (cfgM m hO).idle w (grid0.coords t) = !decide (k0_cond1 (grid0.coords t) = 1#1) := by
    match w, hw with
    | ⟨9, _⟩, _ => rfl
    | ⟨10, _⟩, _ => rfl
    | ⟨11, _⟩, _ => rfl
    | ⟨12, _⟩, _ => rfl
  rw [e, Bool.not_inj_iff, decide_eq_decide]
  exact hcond0_0 t

theorem idle_last (hO : Ok m) (t : Fin (cfgM m hO).N) : (cfgM m hO).idle 8 (grid0.coords t) = !decide (t.val % 8 = 7) := by
  have e : (cfgM m hO).idle 8 (grid0.coords t) = !decide (k0_cond3 (grid0.coords t) = 1#1) := rfl
  rw [e, Bool.not_inj_iff, decide_eq_decide]
  exact hcond0_2 t

theorem base_pred (hO : Ok m) (t : Fin (cfgM m hO).N) (h : t.val % 8 ≠ 0) : base m hO ⟨t.val - 1, Nat.lt_of_le_of_lt (Nat.sub_le _ _) t.isLt⟩ = base m hO t :=
  Fin.ext (by unfold base; dsimp only; omega)
theorem base_self (hO : Ok m) (t : Fin (cfgM m hO).N) (h : t.val % 8 = 0) : base m hO t = t :=
  Fin.ext (by unfold base; dsimp only; omega)

theorem fresh_first {w : Fin 13} (hw : w.val ∈ [9, 10, 11, 12]) (hO : Ok m) (hf : ∀ t : Fin (cfgM m hO).N, ((cfgM m hO).win w).flush t = true ↔ t.val % 8 = 7) (n : ℕ) (hn : n ≤ (cfgM m hO).N) :
    (cfgM m hO).fresh w n = decide (n % 8 = 0) :=
  (cfgM m hO).fresh_tab w (fun n => decide (n % 8 = 0)) rfl (fun t => by
    have e : ((cfgM m hO).win w).flush t = decide (t.val % 8 = 7) := by
      rw [Bool.eq_iff_iff, decide_eq_true_iff]; exact hf t
    rw [e]
    show _ = (_ || ((cfgM m hO).idle w (grid0.coords t) && _))
    rw [idle_first m hw hO t, Bool.eq_iff_iff]
    simp only [Bool.or_eq_true, Bool.and_eq_true, decide_eq_true_iff, Bool.not_eq_true', decide_eq_false_iff_not]
    omega) n hn

theorem bef_first {w : Fin 13} (hw : w.val ∈ [9, 10, 11, 12]) (hO : Ok m) (c : Dev nD) (ho : ((cfgM m hO).win w).isOut = true) (hcl : ∀ (i : (cfgM m hO).grid.Coords) a, ((cfgM m hO).win w).clip i a = none)
    (hf : ∀ t : Fin (cfgM m hO).N, ((cfgM m hO).win w).flush t = true ↔ t.val % 8 = 7)
    (hc : ∀ t : Fin (cfgM m hO).N, t.val % 8 ≠ 0 → (DV m hO 0 c).after w ⟨t.val - 1, Nat.lt_of_le_of_lt (Nat.sub_le _ _) t.isLt⟩ = (DV m hO 0 c).after w t)
    (t : Fin (cfgM m hO).N) (ht : t.val % 8 ≠ 0) (d) : (DV m hO 0 c).before w t d = (DV m hO 0 c).after w t := by
  rw [(DV m hO 0 c).before_out_traj w ho hcl (fun t h0 hi hfr => by
    rw [fresh_first m hw hO hf _ (Nat.le_of_lt t.isLt)] at hfr
    exact (hc t (by simpa using hfr)).symm) t.val t rfl d, fresh_first m hw hO hf _ (Nat.le_of_lt t.isLt), if_neg (by simpa using ht)]
  exact hc t ht
theorem afO_9 (hO : Ok m) (c : Dev nD) (t : Fin (cfgM m hO).N) : (DV m hO 0 c).after 9 t = qcO (iblk m hO c 1 (base m hO t)) := by dsimp only [DV]; try rfl
theorem befO_9 (hO : Ok m) (c : Dev nD) (t : Fin (cfgM m hO).N) (ht : t.val % 8 ≠ 0) (d) : (DV m hO 0 c).before 9 t d = (DV m hO 0 c).after 9 t :=
  bef_first m (w := 9) (by decide) hO c rfl (fun _ _ => rfl) (flush0_9 (adm m hO)) (fun t h => by
    rw [afO_9, afO_9, base_pred m hO t h]) t ht d
theorem afO_10 (hO : Ok m) (c : Dev nD) (t : Fin (cfgM m hO).N) : (DV m hO 0 c).after 10 t = qsO (iblk m hO c 1 (base m hO t)) := by dsimp only [DV]; try rfl
theorem befO_10 (hO : Ok m) (c : Dev nD) (t : Fin (cfgM m hO).N) (ht : t.val % 8 ≠ 0) (d) : (DV m hO 0 c).before 10 t d = (DV m hO 0 c).after 10 t :=
  bef_first m (w := 10) (by decide) hO c rfl (fun _ _ => rfl) (flush0_10 (adm m hO)) (fun t h => by
    rw [afO_10, afO_10, base_pred m hO t h]) t ht d
theorem afO_11 (hO : Ok m) (c : Dev nD) (t : Fin (cfgM m hO).N) : (DV m hO 0 c).after 11 t = qcO (iblk m hO c 2 (base m hO t)) := by dsimp only [DV]; try rfl
theorem befO_11 (hO : Ok m) (c : Dev nD) (t : Fin (cfgM m hO).N) (ht : t.val % 8 ≠ 0) (d) : (DV m hO 0 c).before 11 t d = (DV m hO 0 c).after 11 t :=
  bef_first m (w := 11) (by decide) hO c rfl (fun _ _ => rfl) (flush0_11 (adm m hO)) (fun t h => by
    rw [afO_11, afO_11, base_pred m hO t h]) t ht d
theorem afO_12 (hO : Ok m) (c : Dev nD) (t : Fin (cfgM m hO).N) : (DV m hO 0 c).after 12 t = qsO (iblk m hO c 2 (base m hO t)) := by dsimp only [DV]; try rfl
theorem befO_12 (hO : Ok m) (c : Dev nD) (t : Fin (cfgM m hO).N) (ht : t.val % 8 ≠ 0) (d) : (DV m hO 0 c).before 12 t d = (DV m hO 0 c).after 12 t :=
  bef_first m (w := 12) (by decide) hO c rfl (fun _ _ => rfl) (flush0_12 (adm m hO)) (fun t h => by
    rw [afO_12, afO_12, base_pred m hO t h]) t ht d

theorem stA_of (hO : Ok m) (c : Dev nD) (t : Fin (cfgM m hO).N) (s : St F) (hs : t.val ≠ 0 → s = stA m hO c (t.val - 1)) : stepS m hO c t s = stA m hO c t.val := by
  obtain ⟨n, hn⟩ := t
  cases n with
  | zero =>
    unfold stA stepS St.s1
    rw [if_pos ((hcond0_0 ⟨0, hn⟩).mpr rfl), if_pos ((hcond0_0 ⟨0, hn⟩).mpr rfl)]
  | succ n =>
    have e := hs (Nat.succ_ne_zero n)
    simp only [Nat.add_sub_cancel] at e
    subst e
    simp only [stA]
    rw [dif_pos hn]

theorem afO_8 (hO : Ok m) (c : Dev nD) (t : Fin (cfgM m hO).N) : (DV m hO 0 c).after 8 t = atO (stA m hO c t.val).m (stA m hO c t.val).l (stA m hO c t.val).a (stA m hO c t.val).sn (stA m hO c t.val).sv := by dsimp only [DV]; try rfl

theorem leaf_live (hO : Ok m) (c : Dev nD) (w : Fin (cfgM m hO).W) (t : Fin (cfgM m hO).N) (h : (cfgM m hO).idle w (grid0.coords t) = false) :
    (DV m hO 0 c).leavesExact w t = owns (c : Thread nD τ) (((cfgM m hO).win w).stage ((cfgM m hO).slots t w)) fullShare ((DV m hO 0 c).after w t) := by
  unfold Dat.leavesExact; rw [show (cfgM m hO).idle w ((cfgM m hO).grid.coords t) = false from h]; try rfl
theorem leaf_flush (hO : Ok m) (c : Dev nD) (w : Fin (cfgM m hO).W) (t : Fin (cfgM m hO).N) (h : ((cfgM m hO).win w).flush t = true) :
    (DV m hO 0 c).leavesExact w t = owns (c : Thread nD τ) (((cfgM m hO).win w).stage ((cfgM m hO).slots t w)) fullShare ((DV m hO 0 c).after w t) := by
  unfold Dat.leavesExact; rw [h]; cases (cfgM m hO).idle w ((cfgM m hO).grid.coords t) <;> rfl
theorem leaf_idle (hO : Ok m) (c : Dev nD) (w : Fin (cfgM m hO).W) (t : Fin (cfgM m hO).N) (h : (cfgM m hO).idle w (grid0.coords t) = true) (hf : ((cfgM m hO).win w).flush t = false) :
    (DV m hO 0 c).leavesExact w t = iprop(∃ d, owns (c : Thread nD τ) (((cfgM m hO).win w).stage ((cfgM m hO).slots t w)) fullShare ((DV m hO 0 c).before w t d)) := by
  unfold Dat.leavesExact; rw [show (cfgM m hO).idle w ((cfgM m hO).grid.coords t) = true from h, hf]; try rfl
theorem leafI_0 (hO : Ok m) (c : Dev nD) (t : Fin (cfgM m hO).N) : (DV m hO 0 c).leavesExact 0 t = owns (c : Thread nD τ) (ms0_0 m hO t) fullShare (iblk m hO c 0 t) :=
  (leaf_live m hO c 0 t rfl).trans (by rw [show (DV m hO 0 c).after 0 t = iblk m hO c 0 t from by dsimp only [DV]; try rfl]; try rfl)
theorem leafI_1 (hO : Ok m) (c : Dev nD) (t : Fin (cfgM m hO).N) : (DV m hO 0 c).leavesExact 1 t = owns (c : Thread nD τ) (ms0_1 m hO t) fullShare (iblk m hO c 1 t) :=
  (leaf_live m hO c 1 t rfl).trans (by rw [show (DV m hO 0 c).after 1 t = iblk m hO c 1 t from by dsimp only [DV]; try rfl]; try rfl)
theorem leafI_2 (hO : Ok m) (c : Dev nD) (t : Fin (cfgM m hO).N) : (DV m hO 0 c).leavesExact 2 t = owns (c : Thread nD τ) (ms0_2 m hO t) fullShare (iblk m hO c 2 t) :=
  (leaf_live m hO c 2 t rfl).trans (by rw [show (DV m hO 0 c).after 2 t = iblk m hO c 2 t from by dsimp only [DV]; try rfl]; try rfl)
theorem leafI_3 (hO : Ok m) (c : Dev nD) (t : Fin (cfgM m hO).N) : (DV m hO 0 c).leavesExact 3 t = owns (c : Thread nD τ) (ms0_3 m hO t) fullShare (iblk m hO c 3 t) :=
  (leaf_live m hO c 3 t rfl).trans (by rw [show (DV m hO 0 c).after 3 t = iblk m hO c 3 t from by dsimp only [DV]; try rfl]; try rfl)
theorem leafI_4 (hO : Ok m) (c : Dev nD) (t : Fin (cfgM m hO).N) : (DV m hO 0 c).leavesExact 4 t = owns (c : Thread nD τ) (ms0_4 m hO t) fullShare (iblk m hO c 4 t) :=
  (leaf_live m hO c 4 t rfl).trans (by rw [show (DV m hO 0 c).after 4 t = iblk m hO c 4 t from by dsimp only [DV]; try rfl]; try rfl)
theorem leafI_5 (hO : Ok m) (c : Dev nD) (t : Fin (cfgM m hO).N) : (DV m hO 0 c).leavesExact 5 t = owns (c : Thread nD τ) (ms0_5 m hO t) fullShare (iblk m hO c 5 t) :=
  (leaf_live m hO c 5 t rfl).trans (by rw [show (DV m hO 0 c).after 5 t = iblk m hO c 5 t from by dsimp only [DV]; try rfl]; try rfl)
theorem leafI_6 (hO : Ok m) (c : Dev nD) (t : Fin (cfgM m hO).N) : (DV m hO 0 c).leavesExact 6 t = owns (c : Thread nD τ) (ms0_6 m hO t) fullShare (iblk m hO c 6 t) :=
  (leaf_live m hO c 6 t rfl).trans (by rw [show (DV m hO 0 c).after 6 t = iblk m hO c 6 t from by dsimp only [DV]; try rfl]; try rfl)
theorem leafI_7 (hO : Ok m) (c : Dev nD) (t : Fin (cfgM m hO).N) : (DV m hO 0 c).leavesExact 7 t = owns (c : Thread nD τ) (ms0_7 m hO t) fullShare (iblk m hO c 7 t) :=
  (leaf_live m hO c 7 t rfl).trans (by rw [show (DV m hO 0 c).after 7 t = iblk m hO c 7 t from by dsimp only [DV]; try rfl]; try rfl)
set_option maxHeartbeats 4000000 in
theorem sound (hO : Ok m) (c : Dev nD) (t : Fin (cfgM m hO).N) :
    iprop((DV m hO 0 c).Φ t.castSucc ∗ (DV m hO 0 c).owesAt () t.castSucc
    ∗ (∃ d, owns (c : Thread nD τ) (ms0_0 m hO t) fullShare ((DV m hO 0 c).before 0 t d))
    ∗ (∃ d, owns (c : Thread nD τ) (ms0_1 m hO t) fullShare ((DV m hO 0 c).before 1 t d))
    ∗ (∃ d, owns (c : Thread nD τ) (ms0_2 m hO t) fullShare ((DV m hO 0 c).before 2 t d))
    ∗ (∃ d, owns (c : Thread nD τ) (ms0_3 m hO t) fullShare ((DV m hO 0 c).before 3 t d))
    ∗ (∃ d, owns (c : Thread nD τ) (ms0_4 m hO t) fullShare ((DV m hO 0 c).before 4 t d))
    ∗ (∃ d, owns (c : Thread nD τ) (ms0_5 m hO t) fullShare ((DV m hO 0 c).before 5 t d))
    ∗ (∃ d, owns (c : Thread nD τ) (ms0_6 m hO t) fullShare ((DV m hO 0 c).before 6 t d))
    ∗ (∃ d, owns (c : Thread nD τ) (ms0_7 m hO t) fullShare ((DV m hO 0 c).before 7 t d))
    ∗ (∃ d, owns (c : Thread nD τ) (ms0_8 m hO t) fullShare ((DV m hO 0 c).before 8 t d))
    ∗ (∃ d, owns (c : Thread nD τ) (ms0_9 m hO t) fullShare ((DV m hO 0 c).before 9 t d))
    ∗ (∃ d, owns (c : Thread nD τ) (ms0_10 m hO t) fullShare ((DV m hO 0 c).before 10 t d))
    ∗ (∃ d, owns (c : Thread nD τ) (ms0_11 m hO t) fullShare ((DV m hO 0 c).before 11 t d))
    ∗ (∃ d, owns (c : Thread nD τ) (ms0_12 m hO t) fullShare ((DV m hO 0 c).before 12 t d)))
    ⊢ wp frame (wpE (defs₀ (F := F)) Variants.none c none) Set.univ (bodyAt0 (adm m hO) t) (fun _ =>
    iprop((DV m hO 0 c).Φ t.succ ∗ (DV m hO 0 c).owesAt () t.succ
    ∗ (DV m hO 0 c).leavesExact 0 t
    ∗ (DV m hO 0 c).leavesExact 1 t
    ∗ (DV m hO 0 c).leavesExact 2 t
    ∗ (DV m hO 0 c).leavesExact 3 t
    ∗ (DV m hO 0 c).leavesExact 4 t
    ∗ (DV m hO 0 c).leavesExact 5 t
    ∗ (DV m hO 0 c).leavesExact 6 t
    ∗ (DV m hO 0 c).leavesExact 7 t
    ∗ (DV m hO 0 c).leavesExact 8 t
    ∗ (DV m hO 0 c).leavesExact 9 t
    ∗ (DV m hO 0 c).leavesExact 10 t
    ∗ (DV m hO 0 c).leavesExact 11 t
    ∗ (DV m hO 0 c).leavesExact 12 t)) := by
  rw [leafI_0, leafI_1, leafI_2, leafI_3, leafI_4, leafI_5, leafI_6, leafI_7]
  simp only [befI_0, befI_1, befI_2, befI_3, befI_4, befI_5, befI_6, befI_7]
  rw [show (DV m hO 0 c).owesAt () t.succ = (DV m hO 0 c).owesAt () t.castSucc from rfl,
    show (DV m hO 0 c).Φ t.castSucc = PhiH m hO c t.val from rfl, show (DV m hO 0 c).Φ t.succ = PhiH m hO c (t.val + 1) from rfl]
  unfold PhiH
  iintro ⟨⟨%s, %hs, ⟨⟨HS, Hg⟩, HT⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩
  iapply (body_run c (refs m hO t) (grid0.coords t) (tbl m 0) (insAt m hO c t)
    ⟨(DV m hO 0 c).before 8 t d8, (DV m hO 0 c).before 9 t d9, (DV m hO 0 c).before 10 t d10, (DV m hO 0 c).before 11 t d11, (DV m hO 0 c).before 12 t d12⟩ s Set.univ _)
  isplitl [H0 H1 H2 H3 H4 H5 H6 H7]
  · unfold ownI refs insAt; dsimp only; iframe
  isplitl [H8 H9 H10 H11 H12]
  · unfold ownO refs; dsimp only; iframe
  isplitl [HS]
  · unfold ownS refs; dsimp only; iexact HS
  isplitl [HT]
  · iexact HT
  have es : (s.s1 (grid0.coords t) (insAt m hO c t)).s2 (grid0.coords t) (word c (grid0.coords t) (tbl m 0)) (insAt m hO c t) = stA m hO c t.val := stA_of m hO c t s hs
  rw [es]
  iintro ⟨HI, HO, HS, HT⟩
  isplitl [HS Hg HT]
  · iexists (stA m hO c t.val)
    isplitr
    · ipureintro; intro _; rfl
    isplitr [HT]
    · isplitl [HS]
      · unfold ownS refs; dsimp only; iexact HS
      iexact Hg
    iexact HT
  isplitl [Ho]; · iexact Ho
  unfold ownI refs insAt
  dsimp only
  icases HI with ⟨H0, H1, H2, H3, H4, H5, H6, H7⟩
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  unfold ownO Outs.s1 Outs.s3
  by_cases h0 : t.val % 8 = 0
  · have h7 : ¬ t.val % 8 = 7 := by omega
    rw [if_pos ((hcond0_0 t).mpr h0), if_neg (fun h => h7 ((hcond0_2 t).mp h))]
    rw [leaf_idle m hO c 8 t (by rw [idle_last]; simpa using h7) (by rw [← Bool.not_eq_true]; exact fun h => h7 ((flush0_8 (adm m hO) t).mp h))]
    rw [leaf_live m hO c 9 t (by rw [idle_first m (w := 9) (by decide)]; simpa using h0), leaf_live m hO c 10 t (by rw [idle_first m (w := 10) (by decide)]; simpa using h0),
      leaf_live m hO c 11 t (by rw [idle_first m (w := 11) (by decide)]; simpa using h0), leaf_live m hO c 12 t (by rw [idle_first m (w := 12) (by decide)]; simpa using h0)]
    rw [afO_9, afO_10, afO_11, afO_12, base_self m hO t h0]
    dsimp only
    icases HO with ⟨H8, H9, H10, H11, H12⟩
    isplitl [H8]; · iexists _; iexact H8
    isplitl [H9]; · iexact H9
    isplitl [H10]; · iexact H10
    isplitl [H11]; · iexact H11
    iexact H12
  · rw [if_neg (fun h => h0 ((hcond0_0 t).mp h))]
    by_cases h7 : t.val % 8 = 7
    · rw [if_pos ((hcond0_2 t).mpr h7)]
      rw [leaf_flush m hO c 8 t ((flush0_8 (adm m hO) t).mpr h7), leaf_flush m hO c 9 t ((flush0_9 (adm m hO) t).mpr h7), leaf_flush m hO c 10 t ((flush0_10 (adm m hO) t).mpr h7),
        leaf_flush m hO c 11 t ((flush0_11 (adm m hO) t).mpr h7), leaf_flush m hO c 12 t ((flush0_12 (adm m hO) t).mpr h7)]
      rw [befO_9 m hO c t h0, befO_10 m hO c t h0, befO_11 m hO c t h0, befO_12 m hO c t h0, afO_8]
      dsimp only
      icases HO with ⟨H8, H9, H10, H11, H12⟩
      isplitl [H8]; · iexact H8
      isplitl [H9]; · iexact H9
      isplitl [H10]; · iexact H10
      isplitl [H11]; · iexact H11
      iexact H12
    · rw [if_neg (fun h => h7 ((hcond0_2 t).mp h))]
      rw [leaf_idle m hO c 8 t (by rw [idle_last]; simpa using h7) (by rw [← Bool.not_eq_true]; exact fun h => h7 ((flush0_8 (adm m hO) t).mp h)),
        leaf_idle m hO c 9 t (by rw [idle_first m (w := 9) (by decide)]; simpa using h0) (by rw [← Bool.not_eq_true]; exact fun h => h7 ((flush0_9 (adm m hO) t).mp h)),
        leaf_idle m hO c 10 t (by rw [idle_first m (w := 10) (by decide)]; simpa using h0) (by rw [← Bool.not_eq_true]; exact fun h => h7 ((flush0_10 (adm m hO) t).mp h)),
        leaf_idle m hO c 11 t (by rw [idle_first m (w := 11) (by decide)]; simpa using h0) (by rw [← Bool.not_eq_true]; exact fun h => h7 ((flush0_11 (adm m hO) t).mp h)),
        leaf_idle m hO c 12 t (by rw [idle_first m (w := 12) (by decide)]; simpa using h0) (by rw [← Bool.not_eq_true]; exact fun h => h7 ((flush0_12 (adm m hO) t).mp h))]
      dsimp only
      icases HO with ⟨H8, H9, H10, H11, H12⟩
      isplitl [H8]; · iexists _; iexact H8
      isplitl [H9]; · iexists _; iexact H9
      isplitl [H10]; · iexists _; iexact H10
      isplitl [H11]; · iexists _; iexact H11
      iexists _; iexact H12

theorem row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

theorem body_ob (hO : Ok m) (c : Dev nD) : BodyObligation (DV (F := F) m hO 0 c) (defs₀ (F := F)) Variants.none () Set.univ := fun t => by
  rw [bigSep_W0, bigSep_W0, row m hO]
  exact triple_restated (sound m hO c t) rfl .rfl fun _ => .rfl

theorem phi_in (hO : Ok m) (c : Dev nD) : iprop(Pipeline.ΦA spec0 c ∗ Pipeline.ΦT pre0 (tbl m) c) ⊢ (DV m hO 0 c).Φ 0 := by
  rw [show (DV m hO 0 c).Φ 0 = PhiH m hO c 0 from rfl, PhiT0_eq, PhiA0_eq]
  unfold PhiH
  iintro ⟨⟨⟨⟨%s0, H0⟩, ⟨%s1, H1⟩, ⟨%s2, H2⟩, ⟨%s3, H3⟩, ⟨%s4, H4⟩⟩, Hg⟩, HT⟩
  iexists (⟨s0, s1, s2, s3, s4⟩ : St F)
  isplitr
  · ipureintro; exact fun h => absurd rfl h
  isplitr [HT]
  · isplitr [Hg]
    · isplitl [H0]; · iexact H0
      isplitl [H1]; · iexact H1
      isplitl [H2]; · iexact H2
      isplitl [H3]; · iexact H3
      iexact H4
    iexact Hg
  iexact HT

theorem phi_end (hO : Ok m) (c : Dev nD) : (DV m hO 0 c).Φ (Fin.last (cfgM m hO).N) ⊢ Pipeline.ΦA spec0 c := by
  rw [show (DV m hO 0 c).Φ (Fin.last (cfgM m hO).N) = PhiH m hO c (cfgM m hO).N from rfl, PhiA0_eq]
  unfold PhiH
  iintro ⟨%s, -, ⟨⟨H0, H1, H2, H3, H4⟩, Hg⟩, -⟩
  isplitr [Hg]
  · isplitl [H0]; · iexists _; iexact H0
    isplitl [H1]; · iexists _; iexact H1
    isplitl [H2]; · iexists _; iexact H2
    isplitl [H3]; · iexists _; iexact H3
    iexists _; iexact H4
  iexact Hg

/-- The buffers after the host operations behind the region. -/
def tailV (hO : Ok m) (c : Dev nD) : Valuation τ sig (Elt F) :=
  StableHlo.after (List.flatten [hostOps1]) (Pipeline.withArrays spec0 c (V0 m c) fun w => (DV m hO 0 c).arrAt w (cfgM m hO).N)

set_option backward.isDefEq.respectTransparency.types false in
set_option maxHeartbeats 800000 in
/-- The run: every array of the pipeline and every other buffer, after the host operations behind the region, and every counter at zero. -/
theorem run_all (hO : Ok m) : θ_run defs (onTc (τ := τ) (main (F := F))) ⟨m, fun _ => 0, ρ⟩ (fun r => (∀ c : Dev nD,
    (∀ w, r.2.mem ((spec0 w).arr.view.loc (c.tc : Thread nD τ)) = (DV m hO 0 c).arrAt w (cfgM m hO).N)
      ∧ ∀ b ∈ Pipeline.restRefs sig spec0, r.2.mem ((c.tc : Thread nD τ).loc b) = tailV m hO c (Proc.devRef .tc b)) ∧ r.2.sem = fun _ => 0) :=
  Pipeline.θ_run_frameP_around_track (Q' := _) pcfgs (fun _ => adm m hO) (DV m hO) (0 : Fin 1) launch0 defs₀ Variants.none m ρ main
    (fun c => (body_ob m hO c).loose) (fun c => (DV m hO 0 c).share_full fun _ => rfl)
    (fun _ _ => rfl) (V0 m) [hostOps1] sfx_sub sfx_fresh sfx_keeps
    (hmain m Variants.none) (DV_A m hO) (V_pre m) (phi_in m hO) (phi_end m hO)

theorem run_val (hO : Ok m) : θ_run defs (onTc (τ := τ) (main (F := F))) ⟨m, fun _ => 0, ρ⟩ (fun r => ∀ c : Dev nD,
    r.2.mem ((c : Thread nD τ).loc main_v8_0) = (DV m hO 0 c).arrAt 8 (cfgM m hO).N
      ∧ r.2.mem ((c : Thread nD τ).loc main_v9) = tailV m hO c (Proc.devRef .tc main_v9)
      ∧ r.2.mem ((c : Thread nD τ).loc main_v12) = tailV m hO c (Proc.devRef .tc main_v12)
      ∧ r.2.mem ((c : Thread nD τ).loc main_v13) = tailV m hO c (Proc.devRef .tc main_v13)
      ∧ r.2.mem ((c : Thread nD τ).loc main_v16) = tailV m hO c (Proc.devRef .tc main_v16)) :=
  (θ_run defs _ _).mono (fun _ h c => ⟨(h.1 c).1 8, (h.1 c).2 main_v9 (by decide), (h.1 c).2 main_v12 (by decide), (h.1 c).2 main_v13 (by decide), (h.1 c).2 main_v16 (by decide)⟩) (run_all m ρ hO)

/-- A buffer that no operation behind the region writes and that is no array of the pipeline keeps what the region found. -/
theorem tail_keep (hO : Ok m) (c : Dev nD) (b : Ref sig .tc) (hb : b ∉ T0) (hw : ∀ w, Pipeline.arrRef spec0 w ≠ b) : tailV m hO c (Proc.devRef .tc b) = V m c b := by
  unfold tailV
  rw [StableHlo.after_of_forall_not_mem (b := Proc.devRef .tc b) _ _ (fun op hop h => by
      obtain ⟨ops, ho, hop⟩ := List.mem_flatten.mp hop
      exact hb (sfx_writes ops ho op hop b h)),
    Pipeline.withArrays_of_ne _ c (V0 m c) _ b hw]

/-- The frame: every run ends with the arguments unchanged and every counter at zero. -/
theorem args_kept (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c =>
    ⟨((h.1 c).1 0).trans (((DV m hO 0 c).arrAt_in 0 rfl _).trans ((DV_A m hO c 0).trans (V_main_arg0 m c))),
     ((h.1 c).1 1).trans (((DV m hO 0 c).arrAt_in 1 rfl _).trans ((DV_A m hO c 1).trans (V_main_arg1 m c))),
     ((h.1 c).1 2).trans (((DV m hO 0 c).arrAt_in 2 rfl _).trans ((DV_A m hO c 2).trans (V_main_arg2 m c))),
     ((h.1 c).2 main_arg3 (by decide)).trans ((tail_keep m hO c main_arg3 (by decide) (by decide)).trans (V_main_arg3 m c)),
     ((h.1 c).2 main_arg4 (by decide)).trans ((tail_keep m hO c main_arg4 (by decide) (by decide)).trans (V_main_arg4 m c)),
     ((h.1 c).2 main_arg5 (by decide)).trans ((tail_keep m hO c main_arg5 (by decide) (by decide)).trans (V_main_arg5 m c)),
     ((h.1 c).2 main_arg6 (by decide)).trans ((tail_keep m hO c main_arg6 (by decide) (by decide)).trans (V_main_arg6 m c)),
     ((h.1 c).2 main_arg7 (by decide)).trans ((tail_keep m hO c main_arg7 (by decide) (by decide)).trans (V_main_arg7 m c)),
     ((h.1 c).2 main_arg8 (by decide)).trans ((tail_keep m hO c main_arg8 (by decide) (by decide)).trans (V_main_arg8 m c))⟩, h.2⟩) (run_all m ρ hO)

end Cert.Kernel.Hand
-- ==== Proof.Folds.lean ====
/- Facts on extended reals: the running softmax over blocks is the softmax over all of them. -/
module

public import Idealize.ShloMosaic.Lib.Pointwise

@[expose] public section

noncomputable section

open Idealize.ShloMosaic
namespace Cert.Hand

/-! ## Exponentials and finite sums of extended reals -/

theorem exp_bot : Ideal.exp ⊥ = 0 := rfl

theorem exp_coe (r : ℝ) : Ideal.exp (r : EReal) = (Real.exp r : ℝ) := rfl

theorem exp_nonneg (x : EReal) : 0 ≤ Ideal.exp x := by
  induction x using EReal.rec with
  | bot => exact le_refl _
  | top => exact le_top
  | coe r => exact EReal.coe_nonneg.2 (Real.exp_pos r).le

theorem exp_ne_top {x : EReal} (h : x ≤ 0) : Ideal.exp x ≠ ⊤ := by
  induction x using EReal.rec with
  | bot => exact EReal.zero_ne_top
  | top => exact absurd h (by simp)
  | coe r => exact EReal.coe_ne_top _

theorem sub_le_zero {a b : EReal} (h : a ≤ b) : a - b ≤ 0 := by
  induction a using EReal.rec <;> induction b using EReal.rec <;> simp_all [← EReal.coe_sub, ← EReal.coe_zero, -EReal.coe_zero]

/-- Rescaling by the old and the new maximum is rescaling by the new one. -/
theorem exp_trans {s a b : EReal} (h1 : s ≤ a) (h2 : a ≤ b) :
    Ideal.exp (s - a) * Ideal.exp (a - b) = Ideal.exp (s - b) := by
  induction s using EReal.rec <;> induction a using EReal.rec <;> induction b using EReal.rec <;>
    simp_all [exp_bot, exp_coe, ← EReal.coe_sub, ← EReal.coe_mul, ← Real.exp_add]

theorem sum_mul_of {ι : Type*} (s : Finset ι) (f : ι → EReal) {c : EReal} (h0 : 0 ≤ c) (ht : c ≠ ⊤) :
    (∑ i ∈ s, f i) * c = ∑ i ∈ s, f i * c := by
  classical
  induction s using Finset.induction_on with
  | empty => simp
  | insert a s ha ih => rw [Finset.sum_insert ha, Finset.sum_insert ha, EReal.right_distrib_of_nonneg_of_ne_top h0 ht, ih]

theorem bot_exp (x : EReal) : Ideal.exp (⊥ - x) = 0 := by
  rw [EReal.bot_sub]; rfl

/-! ## The running maximum, denominator and weighted sum -/

/-- The running softmax of a kernel after `T` tokens of scores `s`, started from the maximum `m0`: the greatest score,
    the sum of the exponentials against it, and for every coordinate `d` the values weighted by them. -/
structure Online {D : Type} (m0 : EReal) (s : ℕ → EReal) (v : D → ℕ → EReal) (T : ℕ) (M L : EReal) (A : D → EReal) : Prop where
  max : M = m0 ⊔ (Finset.range T).sup s
  sum : L = ∑ t ∈ Finset.range T, Ideal.exp (s t - M)
  acc : ∀ d, A d = ∑ t ∈ Finset.range T, v d t * Ideal.exp (s t - M)

variable {D : Type} {m0 : EReal} {s : ℕ → EReal} {v : D → ℕ → EReal} {T : ℕ} {M L : EReal} {A : D → EReal}

theorem Online.start : Online m0 s v 0 m0 0 (fun _ : D => 0) :=
  ⟨by simp, by simp, fun _ => by simp⟩

theorem sup_add (T K : ℕ) : (Finset.range (T + K)).sup s = (Finset.range T).sup s ⊔ Finset.univ.sup fun i : Fin K => s (T + i) := by
  apply le_antisymm
  · refine Finset.sup_le fun t ht => ?_
    rcases lt_or_ge t T with h | h
    · exact le_sup_of_le_left (Finset.le_sup (f := s) (Finset.mem_range.2 h))
    · refine le_sup_of_le_right ?_
      have hk : t - T < K := by have := Finset.mem_range.1 ht; omega
      have := Finset.le_sup (f := fun i : Fin K => s (T + i)) (Finset.mem_univ ⟨t - T, hk⟩)
      simpa [Nat.add_sub_cancel' h] using this
  · refine sup_le (Finset.sup_mono (Finset.range_mono (Nat.le_add_right _ _))) (Finset.sup_le fun i _ => ?_)
    exact Finset.le_sup (f := s) (Finset.mem_range.2 (by omega))

/-- A block of `K` further tokens. -/
theorem Online.block (h : Online m0 s v T M L A) (K : ℕ) {M' L' : EReal} {A' : D → EReal} {p : Fin K → EReal} {w : D → Fin K → EReal}
    (hp : ∀ i, p i = s (T + i)) (hw : ∀ d i, w d i = v d (T + i))
    (hM : M' = M ⊔ Finset.univ.sup p)
    (hL : L' = L * Ideal.exp (M - M') + ∑ i, Ideal.exp (p i - M'))
    (hA : ∀ d, A' d = A d * Ideal.exp (M - M') + ∑ i, w d i * Ideal.exp (p i - M')) :
    Online m0 s v (T + K) M' L' A' := by
  obtain rfl : p = fun i : Fin K => s (T + i) := funext hp
  have hle : M ≤ M' := hM ▸ le_sup_left
  have hs : ∀ t ∈ Finset.range T, s t ≤ M := fun t ht => h.max ▸ le_sup_of_le_right (Finset.le_sup (f := s) ht)
  have h0 := exp_nonneg (M - M')
  have ht := exp_ne_top (sub_le_zero hle)
  refine ⟨?_, ?_, fun d => ?_⟩
  · rw [hM, h.max, sup_add, sup_assoc]
  · rw [hL, Finset.sum_range_add, h.sum, sum_mul_of _ _ h0 ht]
    refine congrArg₂ _ (Finset.sum_congr rfl fun t htt => exp_trans (hs t htt) hle) ?_
    exact (Finset.sum_range (fun i => Ideal.exp (s (T + i) - M'))).symm
  · rw [hA, Finset.sum_range_add, h.acc, sum_mul_of _ _ h0 ht]
    refine congrArg₂ _ (Finset.sum_congr rfl fun t htt => ?_) ?_
    · rw [mul_assoc, exp_trans (hs t htt) hle]
    · rw [Finset.sum_range (fun i => v d (T + i) * Ideal.exp (s (T + i) - M'))]
      exact Finset.sum_congr rfl fun i _ => by rw [hw]

/-- A block of `K` masked tokens leaves the state as it is. -/
theorem Online.skip (h : Online m0 s v T M L A) (K : ℕ) (hd : ∀ i < K, s (T + i) = ⊥) : Online m0 s v (T + K) M L A := by
  refine ⟨?_, ?_, fun d => ?_⟩
  · rw [h.max, sup_add]
    have : (Finset.univ.sup fun i : Fin K => s (T + i)) = ⊥ := by
      rw [Finset.sup_eq_bot_iff]; exact fun i _ => hd i i.2
    rw [this, sup_bot_eq]
  · rw [Finset.sum_range_add, ← h.sum, Finset.sum_eq_zero (s := Finset.range K) fun i hi => ?_, add_zero]
    rw [hd i (Finset.mem_range.1 hi), bot_exp]
  · rw [Finset.sum_range_add, ← h.acc d, Finset.sum_eq_zero (s := Finset.range K) fun i hi => ?_, add_zero]
    rw [hd i (Finset.mem_range.1 hi), bot_exp, mul_zero]

/-- The end: dividing the two parts apart and adding is dividing their sum once. -/
theorem Online.finish {J : Type} [Fintype J] (h : Online m0 s v T M L A) (n : J → EReal) (w : D → J → EReal) (d : D) :
    Ideal.div (A d) (L + ∑ j, Ideal.exp (n j - M)) + ∑ j, w d j * Ideal.div (Ideal.exp (n j - M)) (L + ∑ j, Ideal.exp (n j - M))
      = Ideal.div ((∑ t ∈ Finset.range T, v d t * Ideal.exp (s t - M)) + ∑ j, w d j * Ideal.exp (n j - M))
          ((∑ t ∈ Finset.range T, Ideal.exp (s t - M)) + ∑ j, Ideal.exp (n j - M)) := by
  rw [← h.sum, ← h.acc d]
  set den := L + ∑ j, Ideal.exp (n j - M) with hden
  have hL : 0 ≤ L := h.sum ▸ Finset.sum_nonneg fun t _ => exp_nonneg _
  have hN : 0 ≤ ∑ j, Ideal.exp (n j - M) := Finset.sum_nonneg fun t _ => exp_nonneg _
  by_cases h0 : den = 0
  · have h2 := (add_eq_zero_iff_of_nonneg hL hN).1 (hden ▸ h0)
    have hA : A d = 0 := by
      rw [h.acc d]
      refine Finset.sum_eq_zero fun t ht => ?_
      have := (Finset.sum_eq_zero_iff_of_nonneg fun t _ => exp_nonneg (s t - M)).1 (h.sum ▸ h2.1) t ht
      rw [this, mul_zero]
    have hB : ∑ j, w d j * Ideal.exp (n j - M) = 0 := by
      refine Finset.sum_eq_zero fun t ht => ?_
      have := (Finset.sum_eq_zero_iff_of_nonneg fun t _ => exp_nonneg (n t - M)).1 h2.2 t ht
      rw [this, mul_zero]
    rw [hA, hB, h0, add_zero]
    simp [Ideal.div]
  · have hd : ∀ x, Ideal.div x den = x * den⁻¹ := fun x => by rw [Ideal.div, if_neg h0]
    have hp : 0 ≤ den⁻¹ := EReal.inv_nonneg_of_nonneg (add_nonneg hL hN)
    have ht : den⁻¹ ≠ ⊤ := by
      induction den using EReal.rec with
      | bot => simp
      | top => simp
      | coe r => exact EReal.coe_ne_top _
    simp only [hd]
    rw [EReal.right_distrib_of_nonneg_of_ne_top hp ht, sum_mul_of _ _ hp ht]
    exact congrArg _ (Finset.sum_congr rfl fun j _ => (mul_assoc _ _ _).symm)

end Cert.Hand
-- ==== Proof.Quantiser.lean ====
/- The two ways to state the quantiser agree on rows of finite tokens. -/
module

public import Idealize.ShloMosaic.Lib.Pointwise

@[expose] public section

set_option maxRecDepth 16384

noncomputable section

open Idealize.ShloMosaic
namespace Cert.Hand

/-! ## Powers of two as words -/

/-- The word whose exponent field is `k`. -/
def expWord (k : Fin 256) : BitVec 32 := IntOp.shli ArithUnit.vector (BitVec.ofNat 32 k) 23#32

theorem expWord_sign : ∀ k, ((expWord k).extractLsb' 31 1 == 1#1) = false := by decide +kernel
theorem expWord_field : ∀ k, ((expWord k).extractLsb' 23 8).toNat = k.val := by decide +kernel
theorem expWord_frac : ∀ k, ((expWord k).extractLsb' 0 23).toNat = 0 := by decide +kernel

theorem ofBits_expWord (k : Fin 256) (h0 : k.val ≠ 0) (h1 : k.val ≠ 255) :
    Ideal.ofBits .f32 (expWord k) = (((2 : ℝ) ^ ((k.val : ℤ) - 127) : ℝ) : EReal) := by
  unfold Ideal.ofBits Ideal.ieee
  have hs := expWord_sign k
  have hf := expWord_field k
  have hr := expWord_frac k
  simp only [hf, hr]
  rw [if_neg (by omega), if_neg h0]
  simp only [show (8 + 23 : ℕ) = 31 from rfl, hs]
  refine congrArg (fun x : ℝ => (x : EReal)) ?_
  rw [show ((if false = true then (-1 : ℝ) else 1) * ((2 ^ 23 + 0 : ℕ) : ℝ)) = 2 ^ (23 : ℤ) by norm_num, ← zpow_add₀ (by norm_num)]
  exact congrArg (fun z : ℤ => (2 : ℝ) ^ z) (by norm_num)

theorem ofBits_expWord_zero (k : Fin 256) (h0 : k.val = 0) : Ideal.ofBits .f32 (expWord k) = 0 := by
  unfold Ideal.ofBits Ideal.ieee
  have hs := expWord_sign k
  have hf := expWord_field k
  have hr := expWord_frac k
  simp only [hf, hr]
  rw [if_neg (by omega), if_pos h0]
  simp

theorem ofBits_expWord_top (k : Fin 256) (h0 : k.val = 255) : Ideal.ofBits .f32 (expWord k) = ⊤ := by
  unfold Ideal.ofBits Ideal.ieee
  have hs := expWord_sign k
  have hf := expWord_field k
  have hr := expWord_frac k
  simp only [hf, hr]
  rw [if_pos (by omega)]
  simp only [show (8 + 23 : ℕ) = 31 from rfl, hs]
  simp

/-! ## The exponent by counting -/

/-- How many of the 256 powers lie at or below `r`. -/
def cntW (r : EReal) : BitVec 32 :=
  Finset.fold IntOp.addi 0#32 (fun x : Fin 256 => BitVec.setWidth 32 (BitVec.ofBool (decide (Ideal.ofBits .f32 (expWord x) ≤ r)))) Finset.univ

/-- The exponent the cntW gives. -/
def expo (r : EReal) : BitVec 32 :=
  Scalar.select (IntOp.cmpi .eq (IntOp.subi (cntW r) 1#32) 0#32) 0#32 (IntOp.subi (IntOp.subi (cntW r) 1#32) 126#32)

theorem count_le (k : Fin 256) :
    Finset.fold IntOp.addi 0#32 (fun x : Fin 256 => BitVec.setWidth 32 (BitVec.ofBool (decide (x ≤ k)))) Finset.univ = BitVec.ofNat 32 (k.val + 1) := by
  revert k; decide +kernel

/-- Scale and inverse scale by the exponent field `k`. -/
def up (k : Fin 256) : Fin 256 := if k.val = 0 then 127 else k + 1
def dn (k : Fin 256) : Fin 256 := if k.val = 0 then 127 else 253 - k

theorem expo_up : ∀ k : Fin 256, k.val < 252 →
    IntOp.shli ArithUnit.vector (IntOp.addi (Scalar.select (IntOp.cmpi .eq (IntOp.subi (BitVec.ofNat 32 (k.val + 1)) 1#32) 0#32) 0#32 (IntOp.subi (IntOp.subi (BitVec.ofNat 32 (k.val + 1)) 1#32) 126#32)) 127#32) 23#32 = expWord (up k) := by
  decide +kernel

theorem expo_dn : ∀ k : Fin 256, k.val < 252 →
    IntOp.shli ArithUnit.vector (IntOp.subi 127#32 (Scalar.select (IntOp.cmpi .eq (IntOp.subi (BitVec.ofNat 32 (k.val + 1)) 1#32) 0#32) 0#32 (IntOp.subi (IntOp.subi (BitVec.ofNat 32 (k.val + 1)) 1#32) 126#32))) 23#32 = expWord (dn k) := by
  decide +kernel

/-- The exponent field of a nonnegative real, as the bits of a float hold it. -/
theorem field (r : ℝ) (h0 : 0 ≤ r) (h : r < 2 ^ 120) : ∃ k : Fin 256, k.val < 252 ∧ (∀ x : Fin 256, Ideal.ofBits .f32 (expWord x) ≤ (r : EReal) ↔ x ≤ k)
    ∧ (k.val = 0 → r < (2 : ℝ) ^ (-126 : ℤ)) ∧ (k.val ≠ 0 → (2 : ℝ) ^ ((k.val : ℤ) - 127) ≤ r ∧ r < (2 : ℝ) ^ ((k.val : ℤ) - 126)) := by
  by_cases hr : r < (2 : ℝ) ^ (-126 : ℤ)
  · refine ⟨0, by decide, fun x => ?_, fun _ => hr, fun h => absurd rfl h⟩
    rcases eq_or_ne x.val 0 with hx | hx
    · rw [ofBits_expWord_zero x hx]
      exact ⟨fun _ => Fin.le_def.2 (by simp [hx]), fun _ => EReal.coe_nonneg.2 h0⟩
    · refine ⟨fun hle => ?_, fun hle => absurd (Fin.le_def.1 hle) (by simpa using hx)⟩
      rcases eq_or_ne x.val 255 with hy | hy
      · rw [ofBits_expWord_top x hy] at hle
        exact absurd hle (by simp)
      · rw [ofBits_expWord x hx hy] at hle
        have h1 : (2 : ℝ) ^ ((x.val : ℤ) - 127) ≤ r := EReal.coe_le_coe_iff.1 hle
        have h2 : (2 : ℝ) ^ (-126 : ℤ) ≤ (2 : ℝ) ^ ((x.val : ℤ) - 127) := zpow_le_zpow_right₀ (by norm_num) (by omega)
        linarith
  · have hr' : (2 : ℝ) ^ (-126 : ℤ) ≤ r := not_lt.1 hr
    have hpos : 0 < r := lt_of_lt_of_le (by positivity) hr'
    obtain ⟨e, hl, hu⟩ := exists_mem_Ico_zpow hpos (one_lt_two (α := ℝ))
    have he1 : -126 ≤ e := by
      by_contra hc
      have : (2 : ℝ) ^ (e + 1) ≤ (2 : ℝ) ^ (-126 : ℤ) := zpow_le_zpow_right₀ (by norm_num) (by omega)
      linarith
    have he2 : e < 120 := by
      by_contra hc
      have : (2 : ℝ) ^ (120 : ℤ) ≤ (2 : ℝ) ^ e := zpow_le_zpow_right₀ (by norm_num) (by omega)
      have h' : (2 : ℝ) ^ (120 : ℤ) = 2 ^ 120 := by norm_cast
      linarith
    refine ⟨⟨(e + 127).toNat, by omega⟩, by simp only; omega, fun x => ?_, fun h => by simp only at h; omega, fun _ => ?_⟩
    · rw [Fin.le_def]
      rcases eq_or_ne x.val 0 with hx | hx
      · rw [ofBits_expWord_zero x hx]
        exact ⟨fun _ => by simp [hx], fun _ => EReal.coe_nonneg.2 h0⟩
      · rcases eq_or_ne x.val 255 with hy | hy
        · rw [ofBits_expWord_top x hy]
          exact ⟨fun hle => absurd hle (by simp), fun hle => by simp only at hle; omega⟩
        · rw [ofBits_expWord x hx hy, EReal.coe_le_coe_iff]
          constructor
          · intro hle
            by_contra hc
            simp only at hc
            have : (2 : ℝ) ^ (e + 1) ≤ (2 : ℝ) ^ ((x.val : ℤ) - 127) := zpow_le_zpow_right₀ (by norm_num) (by omega)
            linarith
          · intro hle
            simp only at hle
            have : (2 : ℝ) ^ ((x.val : ℤ) - 127) ≤ (2 : ℝ) ^ e := zpow_le_zpow_right₀ (by norm_num) (by omega)
            linarith
    · have : (((e + 127).toNat : ℕ) : ℤ) = e + 127 := by omega
      simp only [this]
      rw [show e + 127 - 127 = e by ring, show e + 127 - 126 = e + 1 by ring]
      exact ⟨hl, hu⟩

/-! ## The exponent by logarithm -/

/-- The reference's exponent: zero below the least normal number, else one more than the floor of the logarithm. -/
def expoR (r : EReal) : EReal :=
  if r < Ideal.ofBits .f32 0x00800000#32 then 0
    else Ideal.liftRound Int.floor (Ideal.div (Ideal.log r) (Ideal.log (Ideal.ofBits .f32 0x40000000#32))) + 1

theorem tiny_eq : Ideal.ofBits .f32 0x00800000#32 = (((2 : ℝ) ^ (-126 : ℤ) : ℝ) : EReal) :=
  ofBits_expWord 1 (by decide) (by decide)
theorem two_eq : Ideal.ofBits .f32 0x40000000#32 = ((2 : ℝ) : EReal) := by
  refine (ofBits_expWord 128 (by decide) (by decide)).trans ?_
  norm_num

theorem log_coe {r : ℝ} (h : 0 < r) : Ideal.log (r : EReal) = (Real.log r : ℝ) := by
  show (if r ≤ 0 then ⊥ else (Real.log r : EReal)) = _
  rw [if_neg (not_le.2 h)]

/-- Both exponents are the same integer. -/
theorem quant (r : ℝ) (h0 : 0 ≤ r) (h : r < 2 ^ 120) : ∃ e : ℤ,
    Ideal.ofBits .f32 (IntOp.shli ArithUnit.vector (IntOp.addi (expo r) 127#32) 23#32) = (((2 : ℝ) ^ e : ℝ) : EReal)
    ∧ Ideal.ofBits .f32 (IntOp.shli ArithUnit.vector (IntOp.subi 127#32 (expo r)) 23#32) = (((2 : ℝ) ^ (-e) : ℝ) : EReal)
    ∧ expoR r = ((e : ℝ) : EReal) := by
  obtain ⟨k, hk, hx, hz, hn⟩ := field r h0 h
  have hc : cntW r = BitVec.ofNat 32 (k.val + 1) := by
    rw [← count_le k]
    unfold cntW
    exact congrArg (fun f => Finset.fold IntOp.addi 0#32 f Finset.univ) (funext fun x => by simp only [hx x])
  unfold expo expoR
  rw [hc, expo_up k hk, expo_dn k hk, tiny_eq, two_eq]
  rcases eq_or_ne k.val 0 with hk0 | hk0
  · refine ⟨0, ?_, ?_, ?_⟩
    · rw [up, if_pos hk0, ofBits_expWord _ (by decide) (by decide)]
      norm_num
    · rw [dn, if_pos hk0, ofBits_expWord _ (by decide) (by decide)]
      norm_num
    · have : (r : EReal) < (((2 : ℝ) ^ (-126 : ℤ) : ℝ) : EReal) := EReal.coe_lt_coe_iff.2 (hz hk0)
      rw [if_pos this]
      simp
  · obtain ⟨hl, hu⟩ := hn hk0
    have hpos : 0 < r := lt_of_lt_of_le (by positivity) hl
    have vu : (up k).val = k.val + 1 := by
      rw [up, if_neg hk0, Fin.val_add]; simp; omega
    have vd : (dn k).val = 253 - k.val := by
      rw [dn, if_neg hk0, Fin.sub_def]; simp; omega
    refine ⟨(k.val : ℤ) - 126, ?_, ?_, ?_⟩
    · rw [ofBits_expWord _ (by omega) (by omega), vu]
      congr 2; push_cast; ring
    · rw [ofBits_expWord _ (by omega) (by omega), vd]
      congr 2; omega
    · have hge : (2 : ℝ) ^ (-126 : ℤ) ≤ r := le_trans (zpow_le_zpow_right₀ (by norm_num) (by omega)) hl
      have : ¬ ((r : EReal) < (((2 : ℝ) ^ (-126 : ℤ) : ℝ) : EReal)) := by
        rw [EReal.coe_lt_coe_iff]; exact not_lt.2 hge
      rw [if_neg this, log_coe hpos, log_coe (by norm_num)]
      have hl2 : 0 < Real.log 2 := Real.log_pos (by norm_num)
      have hdiv : Ideal.div (Real.log r : ℝ) (Real.log 2 : ℝ) = ((Real.log r / Real.log 2 : ℝ) : EReal) := by
        rw [Ideal.div, if_neg (by exact_mod_cast hl2.ne'), ← EReal.coe_inv, ← EReal.coe_mul, div_eq_mul_inv]
      rw [hdiv]
      have hfl : ⌊Real.log r / Real.log 2⌋ = (k.val : ℤ) - 127 := by
        rw [Int.floor_eq_iff, le_div_iff₀ hl2, div_lt_iff₀ hl2]
        constructor
        · rw [← Real.log_zpow]; exact Real.log_le_log (by positivity) (by exact_mod_cast hl)
        · rw [show (((k.val : ℤ) - 127 : ℤ) : ℝ) + 1 = (((k.val : ℤ) - 126 : ℤ) : ℝ) by push_cast; ring, ← Real.log_zpow]
          exact Real.log_lt_log hpos hu
      show ((⌊Real.log r / Real.log 2⌋ : ℝ) : EReal) + 1 = _
      rw [hfl, ← EReal.coe_one, ← EReal.coe_add]
      congr 1; push_cast; ring

/-! ## A row's quantisation -/

/-- The scaled greatest magnitude of a row. -/
def rowMax (f : Fin 128 → EReal) : EReal :=
  Finset.fold max (Ideal.ofBits .f32 0xFF800000#32) (fun x => FloatOps.absf (F := Ideal) (φ := .f32) (f x)) Finset.univ * Ideal.ofBits .f32 991054117#32

/-- The kernel's scale and codes. -/
def kScale (f : Fin 128 → EReal) : EReal := Ideal.ofBits .f32 (IntOp.shli ArithUnit.vector (IntOp.addi (expo (rowMax f)) 127#32) 23#32)
def kCode (f : Fin 128 → EReal) (d : Fin 128) : EReal :=
  min (Ideal.ofBits .f32 0x43E00000#32) (max (Ideal.ofBits .f32 0xC3E00000#32) (f d * Ideal.ofBits .f32 (IntOp.shli ArithUnit.vector (IntOp.subi 127#32 (expo (rowMax f))) 23#32)))

/-- The reference's scale and codes. -/
def rScale (f : Fin 128 → EReal) : EReal := FloatOps.exp2 (F := Ideal) (φ := .f32) (expoR (rowMax f))
def rCode (f : Fin 128 → EReal) (d : Fin 128) : EReal :=
  min (Ideal.ofBits .f32 0x43E00000#32) (max (Ideal.ofBits .f32 0xC3E00000#32) (f d * FloatOps.exp2 (F := Ideal) (φ := .f32) (0 - expoR (rowMax f))))

theorem negInf : Ideal.ofBits .f32 0xFF800000#32 = ⊥ := by
  unfold Ideal.ofBits Ideal.ieee
  simp [show BitVec.extractLsb' 23 8 4286578688#32 = 255#8 by decide, show BitVec.extractLsb' 0 23 4286578688#32 = 0#23 by decide,
    show BitVec.extractLsb' 31 1 4286578688#32 = 1#1 by decide]

theorem recip_eq : Ideal.ofBits .f32 991054117#32 = (((9586981 : ℝ) * 2 ^ (-32 : ℤ) : ℝ) : EReal) := by
  unfold Ideal.ofBits Ideal.ieee
  simp [show BitVec.extractLsb' 23 8 991054117#32 = 118#8 by decide, show BitVec.extractLsb' 0 23 991054117#32 = 1198373#23 by decide,
    show BitVec.extractLsb' 31 1 991054117#32 = 0#1 by decide]

theorem bfMax_eq : Ideal.ofBits .bf16 0x7F7F#16 = (((255 : ℝ) * 2 ^ (120 : ℤ) : ℝ) : EReal) := by
  unfold Ideal.ofBits Ideal.ieee
  simp [show BitVec.extractLsb' 7 8 0x7F7F#16 = 254#8 by decide, show BitVec.extractLsb' 0 7 0x7F7F#16 = 127#7 by decide,
    show BitVec.extractLsb' 15 1 0x7F7F#16 = 0#1 by decide]

/-- The row's maximum, scaled, is a real the exponent field holds. -/
theorem rowMax_real (f : Fin 128 → EReal) (h : ∀ x, FloatOps.absf (F := Ideal) (φ := .bf16) (f x) ≤ Ideal.ofBits .bf16 0x7F7F#16) :
    ∃ r : ℝ, rowMax f = r ∧ 0 ≤ r ∧ r < 2 ^ 120 := by
  set A := Finset.fold max (Ideal.ofBits .f32 0xFF800000#32) (fun x => FloatOps.absf (F := Ideal) (φ := .f32) (f x)) Finset.univ with hA
  have hle : A ≤ (((255 : ℝ) * 2 ^ (120 : ℤ) : ℝ) : EReal) := by
    rw [hA, Finset.fold_max_le, negInf]
    exact ⟨bot_le, fun x _ => bfMax_eq ▸ h x⟩
  have hge : 0 ≤ A := by
    rw [hA, Finset.le_fold_max]
    refine Or.inr ⟨0, Finset.mem_univ _, ?_⟩
    show (0 : EReal) ≤ max (f 0) (-(f 0))
    rcases le_total 0 (f 0) with h0 | h0
    · exact le_max_of_le_left h0
    · exact le_max_of_le_right (by simpa using EReal.neg_le_neg_iff.2 h0)
  obtain ⟨a, ha⟩ : ∃ a : ℝ, A = (a : EReal) := ⟨EReal.toReal A, (EReal.coe_toReal
    (ne_of_lt (lt_of_le_of_lt hle (EReal.coe_lt_top _))) (ne_of_gt (lt_of_lt_of_le EReal.bot_lt_zero hge))).symm⟩
  rw [ha] at hle hge
  have h1 : a ≤ (255 : ℝ) * 2 ^ (120 : ℤ) := EReal.coe_le_coe_iff.1 hle
  have h2 : 0 ≤ a := EReal.coe_nonneg.1 hge
  refine ⟨a * ((9586981 : ℝ) * 2 ^ (-32 : ℤ)), ?_, by positivity, ?_⟩
  · rw [rowMax, ← hA, ha, recip_eq, ← EReal.coe_mul]
  · norm_num at h1 ⊢
    linarith

/-- Kernel and reference quantise a finite row alike. -/
theorem row_eq (f : Fin 128 → EReal) (h : ∀ x, FloatOps.absf (F := Ideal) (φ := .bf16) (f x) ≤ Ideal.ofBits .bf16 0x7F7F#16) :
    kScale f = rScale f ∧ ∀ d, kCode f d = rCode f d := by
  obtain ⟨r, hr, h0, h1⟩ := rowMax_real f h
  obtain ⟨e, e1, e2, e3⟩ := quant r h0 h1
  have x2 : ∀ z : ℤ, FloatOps.exp2 (F := Ideal) (φ := .f32) ((z : ℝ) : EReal) = (((2 : ℝ) ^ z : ℝ) : EReal) := fun z => by
    show ((Real.rpow 2 (z : ℝ) : ℝ) : EReal) = _
    exact congrArg _ (Real.rpow_intCast 2 z)
  refine ⟨?_, fun d => ?_⟩
  · rw [kScale, rScale, hr, e1, e3, x2]
  · rw [kCode, rCode, hr, e2, e3, show (0 : EReal) - ((e : ℝ) : EReal) = (((-e : ℤ) : ℝ) : EReal) by
      rw [zero_sub, ← EReal.coe_neg]; push_cast; rfl, x2]

end Cert.Hand
-- ==== Proof.BlockValues.lean ====
/- The values of `BodyValues` at one index, over the extended reals. -/
module

public import proofs.«01_k».proof.Proof.BodyValues
public import proofs.«01_k».proof.Proof.Folds
public import proofs.«01_k».proof.Proof.Quantiser
public import Idealize.ShloMosaic.Lib.Pointwise
public import Idealize.ShloMosaic.Lib.Pipeline.ValueKit

@[expose] public section

set_option maxRecDepth 16384

noncomputable section

open Idealize.ShloMosaic Idealize.ShloMosaic.TcCoe Idealize.SL.Sem
namespace Cert.Kernel.Hand
open Cert.Kernel Cert.Kernel.Gen Cert.Hand

/-- The score of a cached token of the block. -/
def sc (a1 v1 : BitVec 32) (x : FVec Ideal S1x16x32x128 .bf16) (kc : FVec Ideal S1x2x512x128 .fp8e4m3) (ks : FVec Ideal S1x2x512 .f32) (h : Fin 2) (i : Fin 512) (n : Fin 256) : EReal :=
  Scalar.select (IntOp.cmpi .slt (IntOp.addi (BitVec.ofNat 32 i) (Scalar.muli a1 512#32)) v1)
    ((∑ d : Fin 128, kc (ix4 0 h i d) * ks (ix3 0 h i) * x (ix4 0 ⟨n.val / 16, by omega⟩ ⟨h.val * 16 + n.val % 16, by omega⟩ d)) * Ideal.ofBits .f32 1035273459#32) (Ideal.ofBits .f32 0xFF800000#32)

/-- The running maximum after the block. -/
def mN (a1 v1 : BitVec 32) (x : FVec Ideal S1x16x32x128 .bf16) (kc : FVec Ideal S1x2x512x128 .fp8e4m3) (ks : FVec Ideal S1x2x512 .f32) (sm : FVec Ideal S2x1x256 .f32) (h : Fin 2) (n : Fin 256) : EReal :=
  max (sm (ix3 h 0 n)) (Finset.fold max (Ideal.ofBits .f32 0xFF800000#32) (fun i => sc a1 v1 x kc ks h i n) Finset.univ)

/-- The score of a new token. -/
def scN (x : FVec Ideal S1x16x32x128 .bf16) (kn : FVec Ideal S1x16x2x128 .bf16) (mk : FVec Ideal S16x256 .f32) (h : Fin 2) (t : Fin 16) (n : Fin 256) : EReal :=
  if 0 < mk (ix2 t n) then
    (∑ d : Fin 128, kCode (fun e => kn (ix4 0 t h e)) d * kScale (fun e => kn (ix4 0 t h e)) * x (ix4 0 ⟨n.val / 16, by omega⟩ ⟨h.val * 16 + n.val % 16, by omega⟩ d)) * Ideal.ofBits .f32 1035273459#32
  else Ideal.ofBits .f32 0xFF800000#32

theorem mUp_val (a1 v1 : BitVec 32) (x : FVec Ideal S1x16x32x128 .bf16) (kc : FVec Ideal S1x2x512x128 .fp8e4m3) (ks : FVec Ideal S1x2x512 .f32) (sm : FVec Ideal S2x1x256 .f32) (h : Fin 2) (n : Fin 256) :
    mUp (F := Ideal) a1 v1 x kc ks sm (ix3 h 0 n) = mN a1 v1 x kc ks sm h n := by
  unfold mUp mUpL
  canon_tiles y q
  · obtain rfl : h = 1 := Fin.ext (by have : h.val = 1 + (y 0).val := q0; show h.val = 1; omega)
    obtain rfl : n = y 2 := Fin.ext q2
    rw [pay58_eq]
    pointwise [k0_pay49, k0_pay48, k0_pay47, k0_pay46, k0_pay45, k0_pay44, mN, sc]
  · obtain rfl : h = 0 := Fin.ext (by have : h.val = (y 0).val := q0; show h.val = 0; omega)
    obtain rfl : n = y 2 := Fin.ext q2
    pointwise [k0_pay49, k0_pay48, k0_pay47, k0_pay46, k0_pay45, k0_pay44, mN, sc]

theorem lUp_val (a1 v1 : BitVec 32) (x : FVec Ideal S1x16x32x128 .bf16) (kc : FVec Ideal S1x2x512x128 .fp8e4m3) (ks : FVec Ideal S1x2x512 .f32) (sm sl : FVec Ideal S2x1x256 .f32) (h : Fin 2) (n : Fin 256) :
    lUp (F := Ideal) a1 v1 x kc ks sm sl (ix3 h 0 n) = sl (ix3 h 0 n) * Ideal.exp (sm (ix3 h 0 n) - mN a1 v1 x kc ks sm h n) + ∑ i, Ideal.exp (sc a1 v1 x kc ks h i n - mN a1 v1 x kc ks sm h n) := by
  unfold lUp lUpL
  canon_tiles y q
  · obtain rfl : h = 1 := Fin.ext (by have : h.val = 1 + (y 0).val := q0; show h.val = 1; omega)
    obtain rfl : n = y 2 := Fin.ext q2
    pointwise [k0_pay50, k0_pay49, k0_pay48, k0_pay47, k0_pay46, k0_pay45, k0_pay44, mN, sc]
  · obtain rfl : h = 0 := Fin.ext (by have : h.val = (y 0).val := q0; show h.val = 0; omega)
    obtain rfl : n = y 2 := Fin.ext q2
    pointwise [k0_pay50, k0_pay49, k0_pay48, k0_pay47, k0_pay46, k0_pay45, k0_pay44, mN, sc]

theorem aUp_val (a1 v1 : BitVec 32) (x : FVec Ideal S1x16x32x128 .bf16) (kc : FVec Ideal S1x2x512x128 .fp8e4m3) (ks : FVec Ideal S1x2x512 .f32) (vc : FVec Ideal S1x2x512x128 .fp8e4m3) (vs : FVec Ideal S1x2x512 .f32) (sm : FVec Ideal S2x1x256 .f32) (sa : FVec Ideal S2x128x256 .f32) (h : Fin 2) (d : Fin 128) (n : Fin 256) :
    aUp (F := Ideal) a1 v1 x kc ks vc vs sm sa (ix3 h d n) = sa (ix3 h d n) * Ideal.exp (sm (ix3 h 0 n) - mN a1 v1 x kc ks sm h n) + ∑ i, vc (ix4 0 h i d) * vs (ix3 0 h i) * Ideal.exp (sc a1 v1 x kc ks h i n - mN a1 v1 x kc ks sm h n) := by
  unfold aUp aUpL
  canon_tiles y q
  · obtain rfl : h = 1 := Fin.ext (by have : h.val = 1 + (y 0).val := q0; show h.val = 1; omega)
    obtain rfl : d = y 1 := Fin.ext q1
    obtain rfl : n = y 2 := Fin.ext q2
    pointwise [k0_pay51, k0_pay49, k0_pay48, k0_pay47, k0_pay46, k0_pay45, k0_pay44, mN, sc]
  · obtain rfl : h = 0 := Fin.ext (by have : h.val = (y 0).val := q0; show h.val = 0; omega)
    obtain rfl : d = y 1 := Fin.ext q1
    obtain rfl : n = y 2 := Fin.ext q2
    pointwise [k0_pay51, k0_pay49, k0_pay48, k0_pay47, k0_pay46, k0_pay45, k0_pay44, mN, sc]

theorem qcO_val (kn : FVec Ideal S1x16x2x128 .bf16) (h : Fin 2) (t : Fin 16) (d : Fin 128) :
    qcO (F := Ideal) kn (ix4 0 h t d) = kCode (fun e => kn (ix4 0 t h e)) d := by
  unfold qcO qcOL
  canon_tiles y q
  · obtain rfl : h = 1 := Fin.ext (by have : h.val = 1 + (y 1).val := q1; show h.val = 1; omega)
    obtain rfl : t = y 2 := Fin.ext q2
    obtain rfl : d = y 3 := Fin.ext q3
    pointwise [k0_pay14, k0_pay9, k0_pay8, k0_pay7, k0_pay6, kCode, kScale, expo, Hand.cntW, rowMax, expWord]
  · obtain rfl : h = 0 := Fin.ext (by have : h.val = (y 1).val := q1; show h.val = 0; omega)
    obtain rfl : t = y 2 := Fin.ext q2
    obtain rfl : d = y 3 := Fin.ext q3
    pointwise [k0_pay14, k0_pay9, k0_pay8, k0_pay7, k0_pay6, kCode, kScale, expo, Hand.cntW, rowMax, expWord]

theorem qsO_val (kn : FVec Ideal S1x16x2x128 .bf16) (h : Fin 2) (t : Fin 16) (d : Fin 128) :
    qsO (F := Ideal) kn (ix4 0 h t d) = kScale (fun e => kn (ix4 0 t h e)) := by
  unfold qsO qsOL
  canon_tiles y q
  · obtain rfl : h = 1 := Fin.ext (by have : h.val = 1 + (y 1).val := q1; show h.val = 1; omega)
    obtain rfl : t = y 2 := Fin.ext q2
    obtain rfl : d = y 3 := Fin.ext q3
    pointwise [k0_pay16, k0_pay9, k0_pay8, k0_pay7, k0_pay6, kCode, kScale, expo, Hand.cntW, rowMax, expWord]
  · obtain rfl : h = 0 := Fin.ext (by have : h.val = (y 1).val := q1; show h.val = 0; omega)
    obtain rfl : t = y 2 := Fin.ext q2
    obtain rfl : d = y 3 := Fin.ext q3
    pointwise [k0_pay16, k0_pay9, k0_pay8, k0_pay7, k0_pay6, kCode, kScale, expo, Hand.cntW, rowMax, expWord]

theorem vnO_val (kn : FVec Ideal S1x16x2x128 .bf16) (h : Fin 2) (t : Fin 16) (d : Fin 128) :
    vnO (F := Ideal) kn (ix3 h t d) = kCode (fun e => kn (ix4 0 t h e)) d * kScale (fun e => kn (ix4 0 t h e)) := by
  unfold vnO vnOL
  canon_tiles y q
  · obtain rfl : h = 1 := Fin.ext (by have : h.val = 1 + (y 0).val := q0; show h.val = 1; omega)
    obtain rfl : t = y 1 := Fin.ext q1
    obtain rfl : d = y 2 := Fin.ext q2
    pointwise [k0_pay18, k0_pay9, k0_pay8, k0_pay7, k0_pay6, kCode, kScale, expo, Hand.cntW, rowMax, expWord]
  · obtain rfl : h = 0 := Fin.ext (by have : h.val = (y 0).val := q0; show h.val = 0; omega)
    obtain rfl : t = y 1 := Fin.ext q1
    obtain rfl : d = y 2 := Fin.ext q2
    pointwise [k0_pay18, k0_pay9, k0_pay8, k0_pay7, k0_pay6, kCode, kScale, expo, Hand.cntW, rowMax, expWord]

theorem snO_val (x : FVec Ideal S1x16x32x128 .bf16) (kn : FVec Ideal S1x16x2x128 .bf16) (mk : FVec Ideal S16x256 .f32) (h : Fin 2) (t : Fin 16) (n : Fin 256) :
    snO (F := Ideal) x kn mk (ix3 h t n) = scN x kn mk h t n := by
  unfold snO snOL
  canon_tiles y q
  · obtain rfl : h = 1 := Fin.ext (by have : h.val = 1 + (y 0).val := q0; show h.val = 1; omega)
    obtain rfl : t = y 1 := Fin.ext q1
    obtain rfl : n = y 2 := Fin.ext q2
    pointwise [k0_pay21, k0_pay20, k0_pay19, scN, k0_pay9, k0_pay8, k0_pay7, k0_pay6, kCode, kScale, expo, Hand.cntW, rowMax, expWord]
  · obtain rfl : h = 0 := Fin.ext (by have : h.val = (y 0).val := q0; show h.val = 0; omega)
    obtain rfl : t = y 1 := Fin.ext q1
    obtain rfl : n = y 2 := Fin.ext q2
    pointwise [k0_pay21, k0_pay20, k0_pay19, scN, k0_pay9, k0_pay8, k0_pay7, k0_pay6, kCode, kScale, expo, Hand.cntW, rowMax, expWord]

theorem mIn_val (x : FVec Ideal S1x16x32x128 .bf16) (kn : FVec Ideal S1x16x2x128 .bf16) (mk : FVec Ideal S16x256 .f32) (h : Fin 2) (n : Fin 256) :
    mIn (F := Ideal) x kn mk (ix3 h 0 n) = Finset.fold max (Ideal.ofBits .f32 0xFF800000#32) (fun t => scN x kn mk h t n) Finset.univ := by
  unfold mIn mInL
  canon_tiles y q
  · obtain rfl : h = 1 := Fin.ext (by have : h.val = 1 + (y 0).val := q0; show h.val = 1; omega)
    obtain rfl : n = y 2 := Fin.ext q2
    pointwise [k0_pay22, k0_pay20, k0_pay19, scN, k0_pay9, k0_pay8, k0_pay7, k0_pay6, kCode, kScale, expo, Hand.cntW, rowMax, expWord]
  · obtain rfl : h = 0 := Fin.ext (by have : h.val = (y 0).val := q0; show h.val = 0; omega)
    obtain rfl : n = y 2 := Fin.ext q2
    pointwise [k0_pay22, k0_pay20, k0_pay19, scN, k0_pay9, k0_pay8, k0_pay7, k0_pay6, kCode, kScale, expo, Hand.cntW, rowMax, expWord]

theorem lIn_val (h : Fin 2) (n : Fin 256) : lIn (F := Ideal) (ix3 h 0 n) = 0 := by
  unfold lIn lInL
  canon_tiles y q
  pointwise [k0_pay1]

theorem aIn_val (h : Fin 2) (d : Fin 128) (n : Fin 256) : aIn (F := Ideal) (ix3 h d n) = 0 := by
  unfold aIn aInL
  canon_tiles y q
  pointwise [k0_pay2]

theorem atO_val (sm sl : FVec Ideal S2x1x256 .f32) (sa : FVec Ideal S2x128x256 .f32) (sn : FVec Ideal S2x16x256 .f32) (vn : FVec Ideal S2x16x128 .bf16) (h : Fin 2) (s g : Fin 16) (d : Fin 128)
    (n : Fin 256) (hn : n = ⟨s.val * 16 + g.val, by omega⟩) (k : Fin 32) (hk : k.val = h.val * 16 + g.val) :
    atO (F := Ideal) sm sl sa sn vn (ix4 0 s k d)
      = Ideal.div (sa (ix3 h d n)) (sl (ix3 h 0 n) + ∑ j, Ideal.exp (sn (ix3 h j n) - sm (ix3 h 0 n)))
        + ∑ j, vn (ix3 h j d) * Ideal.div (Ideal.exp (sn (ix3 h j n) - sm (ix3 h 0 n))) (sl (ix3 h 0 n) + ∑ j, Ideal.exp (sn (ix3 h j n) - sm (ix3 h 0 n))) := by
  subst hn
  unfold atO atOL
  canon_tiles y q
  · have e : k.val = 16 + (y 2).val := q2
    have e2 : (y 2).val < 16 := y2_lt
    obtain rfl : h = 1 := Fin.ext (by show h.val = 1; omega)
    obtain rfl : s = y 1 := Fin.ext q1
    obtain rfl : d = y 3 := Fin.ext q3
    obtain rfl : g = y 2 := Fin.ext (by have : k.val = 1 * 16 + g.val := hk; show g.val = (y 2).val; omega)
    pointwise [k0_pay61]
  · have e : k.val = (y 2).val := q2
    have e2 : (y 2).val < 16 := y2_lt
    obtain rfl : h = 0 := Fin.ext (by show h.val = 0; omega)
    obtain rfl : s = y 1 := Fin.ext q1
    obtain rfl : d = y 3 := Fin.ext q3
    obtain rfl : g = y 2 := Fin.ext (by have : k.val = 0 * 16 + g.val := hk; show g.val = (y 2).val; omega)
    pointwise [k0_pay61]

end Cert.Kernel.Hand
-- ==== Proof.BlockWords.lean ====
/- The length tests on machine words, as statements on natural numbers. -/
module

public import proofs.«01_k».proof.Proof.BodyRun

@[expose] public section

noncomputable section

open Idealize.ShloMosaic Idealize.ShloMosaic.TcCoe Idealize.SL Idealize.SL.Sem
namespace Cert.Kernel.Hand
open Cert.Kernel Cert.Kernel.Gen

theorem slt_small (n : ℕ) (hn : n < 4096) (v : BitVec 32) : (BitVec.ofNat 32 n).slt v = decide ((n : Int) < v.toInt) := by
  rw [BitVec.slt]
  congr 2
  rw [BitVec.toInt_eq_toNat_of_lt] <;> simp only [BitVec.toNat_ofNat] <;> omega

theorem cmp_small (n : ℕ) (hn : n < 4096) (v : BitVec 32) : IntOp.cmpi .slt (BitVec.ofNat 32 n) v = BitVec.ofBool (decide ((n : Int) < v.toInt)) := by
  rw [← slt_small n hn v]; rfl

theorem mul512 (j : ℕ) : Scalar.muli (BitVec.ofNat 32 j) 512#32 = BitVec.ofNat 32 (512 * j) := by
  show BitVec.ofNat 32 j * BitVec.ofNat 32 512 = _
  rw [Nat.mul_comm, BitVec.ofNat_mul]

/-- The comparison of a token's position with the cached length, in a block. -/
theorem cmp_blk (j i : ℕ) (h : 512 * j + i < 4096) (v : BitVec 32) :
    IntOp.cmpi .slt (IntOp.addi (BitVec.ofNat 32 i) (Scalar.muli (BitVec.ofNat 32 j) 512#32)) v = IntOp.cmpi .slt (BitVec.ofNat 32 (512 * j + i)) v := by
  rw [mul512]
  show IntOp.cmpi .slt (BitVec.ofNat 32 i + BitVec.ofNat 32 (512 * j)) v = _
  rw [Nat.add_comm, BitVec.ofNat_add]

/-- The block is live exactly when its first token is before the cached length. -/
theorem live_iff (i : grid0.Coords) (v : BitVec 32) (h : (i 1).val < 8) : liveC i v ↔ ((512 * (i 1).val : ℕ) : Int) < v.toInt := by
  unfold liveC
  rw [mul512]
  have e : (Scalar.cmpi .slt (BitVec.ofNat 32 (512 * (i 1).val)) v) = BitVec.ofBool (decide (((512 * (i 1).val : ℕ) : Int) < v.toInt)) := cmp_small _ (by omega) v
  rw [e]
  by_cases hh : ((512 * (i 1).val : ℕ) : Int) < v.toInt
  · simp only [hh, decide_true, iff_true]; decide
  · simp only [hh, decide_false, iff_false]; decide

/-- A live block is the block its index map names. -/
theorem live_min (j : ℕ) (hj : j < 8) (v : BitVec 32) (h : ((512 * j : ℕ) : Int) < v.toInt) :
    (Scalar.minsi (BitVec.ofNat 32 j) (Scalar.shrui (Scalar.subi v 1#32) 9#32)).toNat = j := by
  have hv : v.toInt = v.toNat := by
    rw [BitVec.toInt_eq_toNat_cond] at h ⊢
    have := v.isLt
    split at h <;> rename_i q
    · rw [if_pos q]
    · omega
  have hlt := v.isLt
  have h1 : (v - 1#32).toNat = v.toNat - 1 := by
    rw [BitVec.toNat_sub]; simp only [BitVec.toNat_ofNat]; omega
  have h2 : (Scalar.shrui (Scalar.subi v 1#32) 9#32) = BitVec.ofNat 32 ((v.toNat - 1) / 512) := by
    show IntOp.shrui .scalar (v - 1#32) 9#32 = _
    unfold IntOp.shrui
    rw [if_pos (by decide)]
    apply BitVec.eq_of_toNat_eq
    rw [BitVec.toNat_ofNat, BitVec.ushiftRight_eq', BitVec.toNat_ushiftRight, h1, Nat.shiftRight_eq_div_pow]
    show (v.toNat - 1) / 2 ^ 9 = _
    omega
  rw [h2]
  have hm : 2 * v.toNat < 2 ^ 32 := by
    rw [BitVec.toInt_eq_toNat_cond] at h
    split at h <;> omega
  show (if (BitVec.ofNat 32 j).slt (BitVec.ofNat 32 ((v.toNat - 1) / 512)) then BitVec.ofNat 32 j else BitVec.ofNat 32 ((v.toNat - 1) / 512)).toNat = j
  have e : (BitVec.ofNat 32 ((v.toNat - 1) / 512)).toInt = ((v.toNat - 1) / 512 : ℕ) := by
    rw [BitVec.toInt_eq_toNat_of_lt] <;> simp only [BitVec.toNat_ofNat] <;> omega
  rw [slt_small j (by omega), e]
  split <;> rename_i q
  · simp only [BitVec.toNat_ofNat]; omega
  · simp only [decide_eq_true_eq] at q
    simp only [BitVec.toNat_ofNat]; omega
end Cert.Kernel.Hand
-- ==== Proof.TokenBlocks.lean ====
/- The blocks of the queries, the new tokens and the tree mask, read off the arguments. -/
module

public import proofs.«01_k».proof.Proof.Run
public import proofs.«01_k».proof.Proof.BlockValues
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Kernel.Hand
open Cert.Kernel Cert.Kernel.Gen Cert.Hand
/-! The grid's coordinates, the table word, the blocks of the inputs as entries of the arguments. -/
variable (m : (ℓ : Loc nD τ sig) → Buf (Elt Ideal) ℓ) (hO : Ok m) (c : Dev nD)

theorem jx0 : ∀ t : Fin grid0.N, cc0_transform_0 (grid0.coords t) = ![t.val / 8, 0, 0, 0] := by decide +kernel
theorem jx1 : ∀ t : Fin grid0.N, cc0_transform_1 (grid0.coords t) = ![t.val / 8, 0, 0, 0] := by decide +kernel
theorem jx2 : ∀ t : Fin grid0.N, cc0_transform_2 (grid0.coords t) = ![t.val / 8, 0, 0, 0] := by decide +kernel
theorem jx7 : ∀ t : Fin grid0.N, cc0_transform_7 (grid0.coords t) = ![0, 0] := by decide +kernel
theorem jxc : ∀ t : Fin grid0.N, (grid0.coords t 0).val = t.val / 8 ∧ (grid0.coords t 1).val = t.val % 8 := by decide +kernel

theorem ib0 (t : Fin (cfgM m hO).N) (b : Fin 32) (hb : b.val = t.val / 8) (s : Fin 16) (k : Fin 32) (d : Fin 128) :
    (iblk m hO c 0 t : FVec Ideal S1x16x32x128 .bf16) (ix4 0 s k d) = (m ((c : Thread nD τ).loc main_arg0) : FVec Ideal S32x16x32x128 .bf16) (ix4 b s k d) := by
  have e := jx0 t
  refine congrArg (m ((c : Thread nD τ).loc main_arg0)) (funext fun a => Fin.ext ?_)
  match a with
  | ⟨0, _⟩ => show cc0_transform_0 (grid0.coords t) 0 * 1 + 1 * 0 = b.val; rw [e]; show t.val / 8 * 1 + 1 * 0 = b.val; omega
  | ⟨1, _⟩ => show cc0_transform_0 (grid0.coords t) 1 * 16 + 1 * s.val = s.val; rw [e]; show 0 * 16 + 1 * s.val = s.val; omega
  | ⟨2, _⟩ => show cc0_transform_0 (grid0.coords t) 2 * 32 + 1 * k.val = k.val; rw [e]; show 0 * 32 + 1 * k.val = k.val; omega
  | ⟨3, _⟩ => show cc0_transform_0 (grid0.coords t) 3 * 128 + 1 * d.val = d.val; rw [e]; show 0 * 128 + 1 * d.val = d.val; omega
theorem ib1 (t : Fin (cfgM m hO).N) (b : Fin 32) (hb : b.val = t.val / 8) (s : Fin 16) (k : Fin 2) (d : Fin 128) :
    (iblk m hO c 1 t : FVec Ideal S1x16x2x128 .bf16) (ix4 0 s k d) = (m ((c : Thread nD τ).loc main_arg1) : FVec Ideal S32x16x2x128 .bf16) (ix4 b s k d) := by
  have e := jx1 t
  refine congrArg (m ((c : Thread nD τ).loc main_arg1)) (funext fun a => Fin.ext ?_)
  match a with
  | ⟨0, _⟩ => show cc0_transform_1 (grid0.coords t) 0 * 1 + 1 * 0 = b.val; rw [e]; show t.val / 8 * 1 + 1 * 0 = b.val; omega
  | ⟨1, _⟩ => show cc0_transform_1 (grid0.coords t) 1 * 16 + 1 * s.val = s.val; rw [e]; show 0 * 16 + 1 * s.val = s.val; omega
  | ⟨2, _⟩ => show cc0_transform_1 (grid0.coords t) 2 * 2 + 1 * k.val = k.val; rw [e]; show 0 * 2 + 1 * k.val = k.val; omega
  | ⟨3, _⟩ => show cc0_transform_1 (grid0.coords t) 3 * 128 + 1 * d.val = d.val; rw [e]; show 0 * 128 + 1 * d.val = d.val; omega
theorem ib2 (t : Fin (cfgM m hO).N) (b : Fin 32) (hb : b.val = t.val / 8) (s : Fin 16) (k : Fin 2) (d : Fin 128) :
    (iblk m hO c 2 t : FVec Ideal S1x16x2x128 .bf16) (ix4 0 s k d) = (m ((c : Thread nD τ).loc main_arg2) : FVec Ideal S32x16x2x128 .bf16) (ix4 b s k d) := by
  have e := jx2 t
  refine congrArg (m ((c : Thread nD τ).loc main_arg2)) (funext fun a => Fin.ext ?_)
  match a with
  | ⟨0, _⟩ => show cc0_transform_2 (grid0.coords t) 0 * 1 + 1 * 0 = b.val; rw [e]; show t.val / 8 * 1 + 1 * 0 = b.val; omega
  | ⟨1, _⟩ => show cc0_transform_2 (grid0.coords t) 1 * 16 + 1 * s.val = s.val; rw [e]; show 0 * 16 + 1 * s.val = s.val; omega
  | ⟨2, _⟩ => show cc0_transform_2 (grid0.coords t) 2 * 2 + 1 * k.val = k.val; rw [e]; show 0 * 2 + 1 * k.val = k.val; omega
  | ⟨3, _⟩ => show cc0_transform_2 (grid0.coords t) 3 * 128 + 1 * d.val = d.val; rw [e]; show 0 * 128 + 1 * d.val = d.val; omega
theorem v0v (b : Fin 32) (h : Fin 2) (t : Fin 4096) (d : Fin 128) : (V m c main_v0 : FVec Ideal S32x2x4096x128 .fp8e4m3) (ix4 b h t d) = (m ((c : Thread nD τ).loc main_arg3) : FVec Ideal S32x4096x2x128 .fp8e4m3) (ix4 b t h d) := by
  show StableHlo.after hostOps0 (fun b => m (c, b)) (Proc.devRef .tc main_v0) (ix4 b h t d) = _
  simp only [hostOps0, StableHlo.after_cons, StableHlo.after_nil]
  after_results_simp
  after_results_loop
  pointwise []
  try rfl
theorem v1v (b : Fin 32) (h : Fin 2) (t : Fin 4096) (d : Fin 128) : (V m c main_v1 : FVec Ideal S32x2x4096x128 .fp8e4m3) (ix4 b h t d) = (m ((c : Thread nD τ).loc main_arg5) : FVec Ideal S32x4096x2x128 .fp8e4m3) (ix4 b t h d) := by
  show StableHlo.after hostOps0 (fun b => m (c, b)) (Proc.devRef .tc main_v1) (ix4 b h t d) = _
  simp only [hostOps0, StableHlo.after_cons, StableHlo.after_nil]
  after_results_simp
  after_results_loop
  pointwise []
  try rfl
theorem v2v (b : Fin 32) (h : Fin 2) (t : Fin 4096) : (V m c main_v2 : FVec Ideal S32x2x4096 .f32) (ix3 b h t) = (m ((c : Thread nD τ).loc main_arg4) : FVec Ideal S32x4096x2 .f32) (ix3 b t h) := by
  show StableHlo.after hostOps0 (fun b => m (c, b)) (Proc.devRef .tc main_v2) (ix3 b h t) = _
  simp only [hostOps0, StableHlo.after_cons, StableHlo.after_nil]
  after_results_simp
  after_results_loop
  pointwise []
  try rfl
theorem v3v (b : Fin 32) (h : Fin 2) (t : Fin 4096) : (V m c main_v3 : FVec Ideal S32x2x4096 .f32) (ix3 b h t) = (m ((c : Thread nD τ).loc main_arg6) : FVec Ideal S32x4096x2 .f32) (ix3 b t h) := by
  show StableHlo.after hostOps0 (fun b => m (c, b)) (Proc.devRef .tc main_v3) (ix3 b h t) = _
  simp only [hostOps0, StableHlo.after_cons, StableHlo.after_nil]
  after_results_simp
  after_results_loop
  pointwise []
  try rfl
theorem v7v (t : Fin 16) (n : Fin 256) : (V m c main_v7 : FVec Ideal S16x256 .f32) (ix2 t n) = FloatOps.uitofp (F := Ideal) .f32 ((m ((c : Thread nD τ).loc main_arg8) : Vec Ideal S16x16 .i1) (ix2 ⟨n.val / 16, by omega⟩ t)) := by
  show StableHlo.after hostOps0 (fun b => m (c, b)) (Proc.devRef .tc main_v7) (ix2 t n) = _
  simp only [hostOps0, StableHlo.after_cons, StableHlo.after_nil]
  after_results_simp
  after_results_loop
  pointwise []
  try rfl

theorem ib7 (t : Fin (cfgM m hO).N) (j : Fin 16) (n : Fin 256) : (iblk m hO c 7 t : FVec Ideal S16x256 .f32) (ix2 j n) = (V m c main_v7 : FVec Ideal S16x256 .f32) (ix2 j n) := by
  have e := jx7 t
  refine congrArg (V m c main_v7) (funext fun a => Fin.ext ?_)
  match a with
  | ⟨0, _⟩ => show cc0_transform_7 (grid0.coords t) 0 * 16 + 1 * j.val = j.val; rw [e]; show 0 * 16 + 1 * j.val = j.val; omega
  | ⟨1, _⟩ => show cc0_transform_7 (grid0.coords t) 1 * 256 + 1 * n.val = n.val; rw [e]; show 0 * 256 + 1 * n.val = n.val; omega

theorem off1 : ∀ t : Fin grid0.N, k0_off1 (grid0.coords t) = ![t.val / 8] := by decide +kernel
/-- The table word of point `t` is the cached length of its batch. -/
theorem word_eq (t : Fin grid0.N) (b : Fin 32) (hb : b.val = t.val / 8) : word c (grid0.coords t) (tbl m 0) = (m ((c : Thread nD τ).loc main_arg7) : Vec Ideal S32 .i32) (ix1 b) := by
  obtain rfl : c = 0 := Subsingleton.elim _ _
  have e := off1 t
  refine congrArg (m (((0 : Dev nD) : Thread nD τ).loc main_arg7)) (funext fun a => Fin.ext ?_)
  match a with
  | ⟨0, _⟩ => show k0_off1 (grid0.coords t) 0 + 1 * 0 = b.val; rw [e]; show t.val / 8 + 1 * 0 = b.val; omega

theorem jx3 (t : Fin grid0.N) : cc0_transform_3 k0_off1_inb numel1_S1 (tbl m) (grid0.coords t) = ![t.val / 8, 0, (Scalar.minsi (BitVec.ofNat 32 (grid0.coords t 1).val) (Scalar.shrui (Scalar.subi (word c (grid0.coords t) (tbl m 0)) 1#32) 9#32)).toNat, 0] := by
  have e := congrFun (jx0 t) 0
  funext a
  match a with
  | ⟨0, _⟩ => exact e
  | ⟨1, _⟩ => rfl
  | ⟨2, _⟩ => rfl
  | ⟨3, _⟩ => rfl
end Cert.Kernel.Hand
-- ==== Proof.CacheBlocks.lean ====
/- The blocks of the cache and its scales, read off the arguments. -/
module

public import proofs.«01_k».proof.Proof.Run
public import proofs.«01_k».proof.Proof.BlockValues
public import proofs.«01_k».proof.Proof.BlockWords
public import proofs.«01_k».proof.Proof.TokenBlocks
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Kernel.Hand
open Cert.Kernel Cert.Kernel.Gen Cert.Hand
variable (m : (ℓ : Loc nD τ sig) → Buf (Elt Ideal) ℓ) (hO : Ok m) (c : Dev nD)
theorem jx4 (t : Fin grid0.N) : cc0_transform_4 k0_off1_inb numel1_S1 (tbl m) (grid0.coords t) = ![t.val / 8, 0, (Scalar.minsi (BitVec.ofNat 32 (grid0.coords t 1).val) (Scalar.shrui (Scalar.subi (word c (grid0.coords t) (tbl m 0)) 1#32) 9#32)).toNat] := by
  have e := congrFun (jx0 t) 0
  funext a
  match a with
  | ⟨0, _⟩ => exact e
  | ⟨1, _⟩ => rfl
  | ⟨2, _⟩ => rfl
theorem jx5 (t : Fin grid0.N) : cc0_transform_5 k0_off1_inb numel1_S1 (tbl m) (grid0.coords t) = ![t.val / 8, 0, (Scalar.minsi (BitVec.ofNat 32 (grid0.coords t 1).val) (Scalar.shrui (Scalar.subi (word c (grid0.coords t) (tbl m 0)) 1#32) 9#32)).toNat, 0] := by
  have e := congrFun (jx0 t) 0
  funext a
  match a with
  | ⟨0, _⟩ => exact e
  | ⟨1, _⟩ => rfl
  | ⟨2, _⟩ => rfl
  | ⟨3, _⟩ => rfl
theorem jx6 (t : Fin grid0.N) : cc0_transform_6 k0_off1_inb numel1_S1 (tbl m) (grid0.coords t) = ![t.val / 8, 0, (Scalar.minsi (BitVec.ofNat 32 (grid0.coords t 1).val) (Scalar.shrui (Scalar.subi (word c (grid0.coords t) (tbl m 0)) 1#32) 9#32)).toNat] := by
  have e := congrFun (jx0 t) 0
  funext a
  match a with
  | ⟨0, _⟩ => exact e
  | ⟨1, _⟩ => rfl
  | ⟨2, _⟩ => rfl

/-- At a live point the block of the cache is block `t % 8`. -/
theorem live_ix (t : Fin grid0.N) (hl : liveC (grid0.coords t) (word c (grid0.coords t) (tbl m 0))) :
    (Scalar.minsi (BitVec.ofNat 32 (grid0.coords t 1).val) (Scalar.shrui (Scalar.subi (word c (grid0.coords t) (tbl m 0)) 1#32) 9#32)).toNat = t.val % 8 := by
  have e := (jxc t).2
  have h8 : (grid0.coords t 1).val < 8 := by omega
  rw [live_min _ h8 _ ((live_iff _ _ h8).1 hl), e]

theorem ib3 (t : Fin (cfgM m hO).N) (hl : liveC (grid0.coords t) (word c (grid0.coords t) (tbl m 0))) (b : Fin 32) (hb : b.val = t.val / 8) (h : Fin 2) (i : Fin 512) (d : Fin 128) (q : Fin 4096) (hq : q.val = 512 * (t.val % 8) + i.val) :
    (iblk m hO c 3 t : FVec Ideal S1x2x512x128 .fp8e4m3) (ix4 0 h i d) = (m ((c : Thread nD τ).loc main_arg3) : FVec Ideal S32x4096x2x128 .fp8e4m3) (ix4 b q h d) := by
  have e := jx3 m c t
  rw [live_ix m c t hl] at e
  refine Eq.trans (congrArg (V m c main_v0) (funext fun a => Fin.ext ?_)) (v0v m c b h q d)
  match a with
  | ⟨0, _⟩ => show cc0_transform_3 k0_off1_inb numel1_S1 (tbl m) (grid0.coords t) 0 * 1 + 1 * 0 = b.val; rw [e]; show t.val / 8 * 1 + 1 * 0 = b.val; omega
  | ⟨1, _⟩ => show cc0_transform_3 k0_off1_inb numel1_S1 (tbl m) (grid0.coords t) 1 * 2 + 1 * h.val = h.val; rw [e]; show 0 * 2 + 1 * h.val = h.val; omega
  | ⟨2, _⟩ => show cc0_transform_3 k0_off1_inb numel1_S1 (tbl m) (grid0.coords t) 2 * 512 + 1 * i.val = q.val; rw [e]; show t.val % 8 * 512 + 1 * i.val = q.val; omega
  | ⟨3, _⟩ => show cc0_transform_3 k0_off1_inb numel1_S1 (tbl m) (grid0.coords t) 3 * 128 + 1 * d.val = d.val; rw [e]; show 0 * 128 + 1 * d.val = d.val; omega
theorem ib4 (t : Fin (cfgM m hO).N) (hl : liveC (grid0.coords t) (word c (grid0.coords t) (tbl m 0))) (b : Fin 32) (hb : b.val = t.val / 8) (h : Fin 2) (i : Fin 512) (q : Fin 4096) (hq : q.val = 512 * (t.val % 8) + i.val) :
    (iblk m hO c 4 t : FVec Ideal S1x2x512 .f32) (ix3 0 h i) = (m ((c : Thread nD τ).loc main_arg4) : FVec Ideal S32x4096x2 .f32) (ix3 b q h) := by
  have e := jx4 m c t
  rw [live_ix m c t hl] at e
  refine Eq.trans (congrArg (V m c main_v2) (funext fun a => Fin.ext ?_)) (v2v m c b h q)
  match a with
  | ⟨0, _⟩ => show cc0_transform_4 k0_off1_inb numel1_S1 (tbl m) (grid0.coords t) 0 * 1 + 1 * 0 = b.val; rw [e]; show t.val / 8 * 1 + 1 * 0 = b.val; omega
  | ⟨1, _⟩ => show cc0_transform_4 k0_off1_inb numel1_S1 (tbl m) (grid0.coords t) 1 * 2 + 1 * h.val = h.val; rw [e]; show 0 * 2 + 1 * h.val = h.val; omega
  | ⟨2, _⟩ => show cc0_transform_4 k0_off1_inb numel1_S1 (tbl m) (grid0.coords t) 2 * 512 + 1 * i.val = q.val; rw [e]; show t.val % 8 * 512 + 1 * i.val = q.val; omega
theorem ib5 (t : Fin (cfgM m hO).N) (hl : liveC (grid0.coords t) (word c (grid0.coords t) (tbl m 0))) (b : Fin 32) (hb : b.val = t.val / 8) (h : Fin 2) (i : Fin 512) (d : Fin 128) (q : Fin 4096) (hq : q.val = 512 * (t.val % 8) + i.val) :
    (iblk m hO c 5 t : FVec Ideal S1x2x512x128 .fp8e4m3) (ix4 0 h i d) = (m ((c : Thread nD τ).loc main_arg5) : FVec Ideal S32x4096x2x128 .fp8e4m3) (ix4 b q h d) := by
  have e := jx5 m c t
  rw [live_ix m c t hl] at e
  refine Eq.trans (congrArg (V m c main_v1) (funext fun a => Fin.ext ?_)) (v1v m c b h q d)
  match a with
  | ⟨0, _⟩ => show cc0_transform_5 k0_off1_inb numel1_S1 (tbl m) (grid0.coords t) 0 * 1 + 1 * 0 = b.val; rw [e]; show t.val / 8 * 1 + 1 * 0 = b.val; omega
  | ⟨1, _⟩ => show cc0_transform_5 k0_off1_inb numel1_S1 (tbl m) (grid0.coords t) 1 * 2 + 1 * h.val = h.val; rw [e]; show 0 * 2 + 1 * h.val = h.val; omega
  | ⟨2, _⟩ => show cc0_transform_5 k0_off1_inb numel1_S1 (tbl m) (grid0.coords t) 2 * 512 + 1 * i.val = q.val; rw [e]; show t.val % 8 * 512 + 1 * i.val = q.val; omega
  | ⟨3, _⟩ => show cc0_transform_5 k0_off1_inb numel1_S1 (tbl m) (grid0.coords t) 3 * 128 + 1 * d.val = d.val; rw [e]; show 0 * 128 + 1 * d.val = d.val; omega
theorem ib6 (t : Fin (cfgM m hO).N) (hl : liveC (grid0.coords t) (word c (grid0.coords t) (tbl m 0))) (b : Fin 32) (hb : b.val = t.val / 8) (h : Fin 2) (i : Fin 512) (q : Fin 4096) (hq : q.val = 512 * (t.val % 8) + i.val) :
    (iblk m hO c 6 t : FVec Ideal S1x2x512 .f32) (ix3 0 h i) = (m ((c : Thread nD τ).loc main_arg6) : FVec Ideal S32x4096x2 .f32) (ix3 b q h) := by
  have e := jx6 m c t
  rw [live_ix m c t hl] at e
  refine Eq.trans (congrArg (V m c main_v3) (funext fun a => Fin.ext ?_)) (v3v m c b h q)
  match a with
  | ⟨0, _⟩ => show cc0_transform_6 k0_off1_inb numel1_S1 (tbl m) (grid0.coords t) 0 * 1 + 1 * 0 = b.val; rw [e]; show t.val / 8 * 1 + 1 * 0 = b.val; omega
  | ⟨1, _⟩ => show cc0_transform_6 k0_off1_inb numel1_S1 (tbl m) (grid0.coords t) 1 * 2 + 1 * h.val = h.val; rw [e]; show 0 * 2 + 1 * h.val = h.val; omega
  | ⟨2, _⟩ => show cc0_transform_6 k0_off1_inb numel1_S1 (tbl m) (grid0.coords t) 2 * 512 + 1 * i.val = q.val; rw [e]; show t.val % 8 * 512 + 1 * i.val = q.val; omega
end Cert.Kernel.Hand
-- ==== Proof.OutputArrays.lean ====
/- An output array from what its window holds at the last point of each batch row. -/
module

public import proofs.«01_k».proof.Proof.Run
public import proofs.«01_k».proof.Proof.BlockValues
public import proofs.«01_k».proof.Proof.BlockWords
public import proofs.«01_k».proof.Proof.TokenBlocks
public import proofs.«01_k».proof.Proof.CacheBlocks
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Kernel.Hand
open Cert.Kernel Cert.Kernel.Gen Cert.Hand
variable (m : (ℓ : Loc nD τ sig) → Buf (Elt Ideal) ℓ) (hO : Ok m) (c : Dev nD)
theorem ex4 {n0 n1 n2 n3 : Nat} (f : (⟨4, ![n0, n1, n2, n3]⟩ : Shape).Idx) : ∃ (a : Fin n0) (b : Fin n1) (c : Fin n2) (d : Fin n3), f = ix4 a b c d := ⟨_, _, _, _, eq_ix4 f⟩
theorem mem_emb {sig : RefSig} {κ : Kind} {sp : Space} {s : Shape} {e : EltTy} (v : View sig κ sp s e) (x : s.Idx) (i : v.ref.ty.shape.Idx) (h : v.emb x = i) : i ∈ v.set := h ▸ v.emb_mem_set x
theorem jx8 : ∀ t : Fin grid0.N, cc0_transform_8 (grid0.coords t) = ![t.val / 8, 0, 0, 0] := by decide +kernel
theorem emb8 (t : Fin (cfgM m hO).N) (b : Fin 32) (hb : b.val = t.val / 8) (s : Fin 16) (k : Fin 32) (d : Fin 128) :
    (((cfgM m hO).win 8).blk t).view.emb (ix4 0 s k d : S1x16x32x128.Idx) = (ix4 b s k d : S32x16x32x128.Idx) := by
  have e := jx8 t
  refine funext fun a => Fin.ext ?_
  match a with
  | ⟨0, _⟩ => show cc0_transform_8 (grid0.coords t) 0 * 1 + 1 * 0 = b.val; rw [e]; show t.val / 8 * 1 + 1 * 0 = b.val; omega
  | ⟨1, _⟩ => show cc0_transform_8 (grid0.coords t) 1 * 16 + 1 * s.val = s.val; rw [e]; show 0 * 16 + 1 * s.val = s.val; omega
  | ⟨2, _⟩ => show cc0_transform_8 (grid0.coords t) 2 * 32 + 1 * k.val = k.val; rw [e]; show 0 * 32 + 1 * k.val = k.val; omega
  | ⟨3, _⟩ => show cc0_transform_8 (grid0.coords t) 3 * 128 + 1 * d.val = d.val; rw [e]; show 0 * 128 + 1 * d.val = d.val; omega
/-- What window 8 flushes fills its array. -/
theorem fill8 (G : FVec Ideal S32x16x32x128 .bf16)
    (h : ∀ (t : Fin (cfgM m hO).N) (b : Fin 32), b.val = t.val / 8 → t.val % 8 = 7 → ∀ (s : Fin 16) (k : Fin 32) (d : Fin 128), ((DV m hO 0 c).after 8 t : FVec Ideal S1x16x32x128 .bf16) (ix4 0 s k d) = G (ix4 b s k d)) :
    (DV m hO 0 c).arrAt 8 (cfgM m hO).N = G := by
  have hN : (cfgM m hO).N = 256 := N_0
  have k1 : ∀ (t : Fin (cfgM m hO).N), ((cfgM m hO).win 8).flush t = true → ∀ z : S1x16x32x128.Idx, ((DV m hO 0 c).after 8 t : FVec Ideal S1x16x32x128 .bf16) z = G ((((cfgM m hO).win 8).blk t).view.emb z) := by
    intro t hf z
    obtain ⟨a, s, k, d, rfl⟩ := ex4 (n0 := 1) (n1 := 16) (n2 := 32) (n3 := 128) z
    obtain rfl : a = 0 := Subsingleton.elim _ _
    have ht : t.val < 256 := lt_of_lt_of_eq t.isLt hN
    exact (h t ⟨t.val / 8, by omega⟩ rfl ((flush0_8 (adm m hO) t).1 hf) s k d).trans (congrArg G (emb8 m hO t ⟨t.val / 8, by omega⟩ rfl s k d).symm)
  have k2 : ∀ i : S32x16x32x128.Idx, ∃ t : Fin (cfgM m hO).N, ((cfgM m hO).win 8).flush t = true ∧ i ∈ (((cfgM m hO).win 8).blk t).view.set := by
    intro i
    obtain ⟨b, s, k, d, rfl⟩ := ex4 (n0 := 32) (n1 := 16) (n2 := 32) (n3 := 128) i
    have hb := b.isLt
    exact ⟨⟨8 * b.val + 7, by omega⟩, (flush0_8 (adm m hO) _).2 (by show (8 * b.val + 7) % 8 = 7; omega),
      mem_emb _ _ _ (emb8 m hO ⟨8 * b.val + 7, by omega⟩ b (by show b.val = (8 * b.val + 7) / 8; omega) s k d)⟩
  exact (DV m hO 0 c).arrAt_eq_of_emb 8 G k1 k2
theorem jx9 : ∀ t : Fin grid0.N, cc0_transform_9 (grid0.coords t) = ![t.val / 8, 0, 0, 0] := by decide +kernel
theorem emb9 (t : Fin (cfgM m hO).N) (b : Fin 32) (hb : b.val = t.val / 8) (s : Fin 2) (k : Fin 16) (d : Fin 128) :
    (((cfgM m hO).win 9).blk t).view.emb (ix4 0 s k d : S1x2x16x128.Idx) = (ix4 b s k d : S32x2x16x128.Idx) := by
  have e := jx9 t
  refine funext fun a => Fin.ext ?_
  match a with
  | ⟨0, _⟩ => show cc0_transform_9 (grid0.coords t) 0 * 1 + 1 * 0 = b.val; rw [e]; show t.val / 8 * 1 + 1 * 0 = b.val; omega
  | ⟨1, _⟩ => show cc0_transform_9 (grid0.coords t) 1 * 2 + 1 * s.val = s.val; rw [e]; show 0 * 2 + 1 * s.val = s.val; omega
  | ⟨2, _⟩ => show cc0_transform_9 (grid0.coords t) 2 * 16 + 1 * k.val = k.val; rw [e]; show 0 * 16 + 1 * k.val = k.val; omega
  | ⟨3, _⟩ => show cc0_transform_9 (grid0.coords t) 3 * 128 + 1 * d.val = d.val; rw [e]; show 0 * 128 + 1 * d.val = d.val; omega
/-- What window 9 flushes fills its array. -/
theorem fill9 (G : FVec Ideal S32x2x16x128 .fp8e4m3)
    (h : ∀ (t : Fin (cfgM m hO).N) (b : Fin 32), b.val = t.val / 8 → t.val % 8 = 7 → ∀ (s : Fin 2) (k : Fin 16) (d : Fin 128), ((DV m hO 0 c).after 9 t : FVec Ideal S1x2x16x128 .fp8e4m3) (ix4 0 s k d) = G (ix4 b s k d)) :
    (DV m hO 0 c).arrAt 9 (cfgM m hO).N = G := by
  have hN : (cfgM m hO).N = 256 := N_0
  have k1 : ∀ (t : Fin (cfgM m hO).N), ((cfgM m hO).win 9).flush t = true → ∀ z : S1x2x16x128.Idx, ((DV m hO 0 c).after 9 t : FVec Ideal S1x2x16x128 .fp8e4m3) z = G ((((cfgM m hO).win 9).blk t).view.emb z) := by
    intro t hf z
    obtain ⟨a, s, k, d, rfl⟩ := ex4 (n0 := 1) (n1 := 2) (n2 := 16) (n3 := 128) z
    obtain rfl : a = 0 := Subsingleton.elim _ _
    have ht : t.val < 256 := lt_of_lt_of_eq t.isLt hN
    exact (h t ⟨t.val / 8, by omega⟩ rfl ((flush0_9 (adm m hO) t).1 hf) s k d).trans (congrArg G (emb9 m hO t ⟨t.val / 8, by omega⟩ rfl s k d).symm)
  have k2 : ∀ i : S32x2x16x128.Idx, ∃ t : Fin (cfgM m hO).N, ((cfgM m hO).win 9).flush t = true ∧ i ∈ (((cfgM m hO).win 9).blk t).view.set := by
    intro i
    obtain ⟨b, s, k, d, rfl⟩ := ex4 (n0 := 32) (n1 := 2) (n2 := 16) (n3 := 128) i
    have hb := b.isLt
    exact ⟨⟨8 * b.val + 7, by omega⟩, (flush0_9 (adm m hO) _).2 (by show (8 * b.val + 7) % 8 = 7; omega),
      mem_emb _ _ _ (emb9 m hO ⟨8 * b.val + 7, by omega⟩ b (by show b.val = (8 * b.val + 7) / 8; omega) s k d)⟩
  exact (DV m hO 0 c).arrAt_eq_of_emb 9 G k1 k2
theorem jx10 : ∀ t : Fin grid0.N, cc0_transform_10 (grid0.coords t) = ![t.val / 8, 0, 0, 0] := by decide +kernel
theorem emb10 (t : Fin (cfgM m hO).N) (b : Fin 32) (hb : b.val = t.val / 8) (s : Fin 2) (k : Fin 16) (d : Fin 128) :
    (((cfgM m hO).win 10).blk t).view.emb (ix4 0 s k d : S1x2x16x128.Idx) = (ix4 b s k d : S32x2x16x128.Idx) := by
  have e := jx10 t
  refine funext fun a => Fin.ext ?_
  match a with
  | ⟨0, _⟩ => show cc0_transform_10 (grid0.coords t) 0 * 1 + 1 * 0 = b.val; rw [e]; show t.val / 8 * 1 + 1 * 0 = b.val; omega
  | ⟨1, _⟩ => show cc0_transform_10 (grid0.coords t) 1 * 2 + 1 * s.val = s.val; rw [e]; show 0 * 2 + 1 * s.val = s.val; omega
  | ⟨2, _⟩ => show cc0_transform_10 (grid0.coords t) 2 * 16 + 1 * k.val = k.val; rw [e]; show 0 * 16 + 1 * k.val = k.val; omega
  | ⟨3, _⟩ => show cc0_transform_10 (grid0.coords t) 3 * 128 + 1 * d.val = d.val; rw [e]; show 0 * 128 + 1 * d.val = d.val; omega
/-- What window 10 flushes fills its array. -/
theorem fill10 (G : FVec Ideal S32x2x16x128 .f32)
    (h : ∀ (t : Fin (cfgM m hO).N) (b : Fin 32), b.val = t.val / 8 → t.val % 8 = 7 → ∀ (s : Fin 2) (k : Fin 16) (d : Fin 128), ((DV m hO 0 c).after 10 t : FVec Ideal S1x2x16x128 .f32) (ix4 0 s k d) = G (ix4 b s k d)) :
    (DV m hO 0 c).arrAt 10 (cfgM m hO).N = G := by
  have hN : (cfgM m hO).N = 256 := N_0
  have k1 : ∀ (t : Fin (cfgM m hO).N), ((cfgM m hO).win 10).flush t = true → ∀ z : S1x2x16x128.Idx, ((DV m hO 0 c).after 10 t : FVec Ideal S1x2x16x128 .f32) z = G ((((cfgM m hO).win 10).blk t).view.emb z) := by
    intro t hf z
    obtain ⟨a, s, k, d, rfl⟩ := ex4 (n0 := 1) (n1 := 2) (n2 := 16) (n3 := 128) z
    obtain rfl : a = 0 := Subsingleton.elim _ _
    have ht : t.val < 256 := lt_of_lt_of_eq t.isLt hN
    exact (h t ⟨t.val / 8, by omega⟩ rfl ((flush0_10 (adm m hO) t).1 hf) s k d).trans (congrArg G (emb10 m hO t ⟨t.val / 8, by omega⟩ rfl s k d).symm)
  have k2 : ∀ i : S32x2x16x128.Idx, ∃ t : Fin (cfgM m hO).N, ((cfgM m hO).win 10).flush t = true ∧ i ∈ (((cfgM m hO).win 10).blk t).view.set := by
    intro i
    obtain ⟨b, s, k, d, rfl⟩ := ex4 (n0 := 32) (n1 := 2) (n2 := 16) (n3 := 128) i
    have hb := b.isLt
    exact ⟨⟨8 * b.val + 7, by omega⟩, (flush0_10 (adm m hO) _).2 (by show (8 * b.val + 7) % 8 = 7; omega),
      mem_emb _ _ _ (emb10 m hO ⟨8 * b.val + 7, by omega⟩ b (by show b.val = (8 * b.val + 7) / 8; omega) s k d)⟩
  exact (DV m hO 0 c).arrAt_eq_of_emb 10 G k1 k2
theorem jx11 : ∀ t : Fin grid0.N, cc0_transform_11 (grid0.coords t) = ![t.val / 8, 0, 0, 0] := by decide +kernel
theorem emb11 (t : Fin (cfgM m hO).N) (b : Fin 32) (hb : b.val = t.val / 8) (s : Fin 2) (k : Fin 16) (d : Fin 128) :
    (((cfgM m hO).win 11).blk t).view.emb (ix4 0 s k d : S1x2x16x128.Idx) = (ix4 b s k d : S32x2x16x128.Idx) := by
  have e := jx11 t
  refine funext fun a => Fin.ext ?_
  match a with
  | ⟨0, _⟩ => show cc0_transform_11 (grid0.coords t) 0 * 1 + 1 * 0 = b.val; rw [e]; show t.val / 8 * 1 + 1 * 0 = b.val; omega
  | ⟨1, _⟩ => show cc0_transform_11 (grid0.coords t) 1 * 2 + 1 * s.val = s.val; rw [e]; show 0 * 2 + 1 * s.val = s.val; omega
  | ⟨2, _⟩ => show cc0_transform_11 (grid0.coords t) 2 * 16 + 1 * k.val = k.val; rw [e]; show 0 * 16 + 1 * k.val = k.val; omega
  | ⟨3, _⟩ => show cc0_transform_11 (grid0.coords t) 3 * 128 + 1 * d.val = d.val; rw [e]; show 0 * 128 + 1 * d.val = d.val; omega
/-- What window 11 flushes fills its array. -/
theorem fill11 (G : FVec Ideal S32x2x16x128 .fp8e4m3)
    (h : ∀ (t : Fin (cfgM m hO).N) (b : Fin 32), b.val = t.val / 8 → t.val % 8 = 7 → ∀ (s : Fin 2) (k : Fin 16) (d : Fin 128), ((DV m hO 0 c).after 11 t : FVec Ideal S1x2x16x128 .fp8e4m3) (ix4 0 s k d) = G (ix4 b s k d)) :
    (DV m hO 0 c).arrAt 11 (cfgM m hO).N = G := by
  have hN : (cfgM m hO).N = 256 := N_0
  have k1 : ∀ (t : Fin (cfgM m hO).N), ((cfgM m hO).win 11).flush t = true → ∀ z : S1x2x16x128.Idx, ((DV m hO 0 c).after 11 t : FVec Ideal S1x2x16x128 .fp8e4m3) z = G ((((cfgM m hO).win 11).blk t).view.emb z) := by
    intro t hf z
    obtain ⟨a, s, k, d, rfl⟩ := ex4 (n0 := 1) (n1 := 2) (n2 := 16) (n3 := 128) z
    obtain rfl : a = 0 := Subsingleton.elim _ _
    have ht : t.val < 256 := lt_of_lt_of_eq t.isLt hN
    exact (h t ⟨t.val / 8, by omega⟩ rfl ((flush0_11 (adm m hO) t).1 hf) s k d).trans (congrArg G (emb11 m hO t ⟨t.val / 8, by omega⟩ rfl s k d).symm)
  have k2 : ∀ i : S32x2x16x128.Idx, ∃ t : Fin (cfgM m hO).N, ((cfgM m hO).win 11).flush t = true ∧ i ∈ (((cfgM m hO).win 11).blk t).view.set := by
    intro i
    obtain ⟨b, s, k, d, rfl⟩ := ex4 (n0 := 32) (n1 := 2) (n2 := 16) (n3 := 128) i
    have hb := b.isLt
    exact ⟨⟨8 * b.val + 7, by omega⟩, (flush0_11 (adm m hO) _).2 (by show (8 * b.val + 7) % 8 = 7; omega),
      mem_emb _ _ _ (emb11 m hO ⟨8 * b.val + 7, by omega⟩ b (by show b.val = (8 * b.val + 7) / 8; omega) s k d)⟩
  exact (DV m hO 0 c).arrAt_eq_of_emb 11 G k1 k2
theorem jx12 : ∀ t : Fin grid0.N, cc0_transform_12 (grid0.coords t) = ![t.val / 8, 0, 0, 0] := by decide +kernel
theorem emb12 (t : Fin (cfgM m hO).N) (b : Fin 32) (hb : b.val = t.val / 8) (s : Fin 2) (k : Fin 16) (d : Fin 128) :
    (((cfgM m hO).win 12).blk t).view.emb (ix4 0 s k d : S1x2x16x128.Idx) = (ix4 b s k d : S32x2x16x128.Idx) := by
  have e := jx12 t
  refine funext fun a => Fin.ext ?_
  match a with
  | ⟨0, _⟩ => show cc0_transform_12 (grid0.coords t) 0 * 1 + 1 * 0 = b.val; rw [e]; show t.val / 8 * 1 + 1 * 0 = b.val; omega
  | ⟨1, _⟩ => show cc0_transform_12 (grid0.coords t) 1 * 2 + 1 * s.val = s.val; rw [e]; show 0 * 2 + 1 * s.val = s.val; omega
  | ⟨2, _⟩ => show cc0_transform_12 (grid0.coords t) 2 * 16 + 1 * k.val = k.val; rw [e]; show 0 * 16 + 1 * k.val = k.val; omega
  | ⟨3, _⟩ => show cc0_transform_12 (grid0.coords t) 3 * 128 + 1 * d.val = d.val; rw [e]; show 0 * 128 + 1 * d.val = d.val; omega
/-- What window 12 flushes fills its array. -/
theorem fill12 (G : FVec Ideal S32x2x16x128 .f32)
    (h : ∀ (t : Fin (cfgM m hO).N) (b : Fin 32), b.val = t.val / 8 → t.val % 8 = 7 → ∀ (s : Fin 2) (k : Fin 16) (d : Fin 128), ((DV m hO 0 c).after 12 t : FVec Ideal S1x2x16x128 .f32) (ix4 0 s k d) = G (ix4 b s k d)) :
    (DV m hO 0 c).arrAt 12 (cfgM m hO).N = G := by
  have hN : (cfgM m hO).N = 256 := N_0
  have k1 : ∀ (t : Fin (cfgM m hO).N), ((cfgM m hO).win 12).flush t = true → ∀ z : S1x2x16x128.Idx, ((DV m hO 0 c).after 12 t : FVec Ideal S1x2x16x128 .f32) z = G ((((cfgM m hO).win 12).blk t).view.emb z) := by
    intro t hf z
    obtain ⟨a, s, k, d, rfl⟩ := ex4 (n0 := 1) (n1 := 2) (n2 := 16) (n3 := 128) z
    obtain rfl : a = 0 := Subsingleton.elim _ _
    have ht : t.val < 256 := lt_of_lt_of_eq t.isLt hN
    exact (h t ⟨t.val / 8, by omega⟩ rfl ((flush0_12 (adm m hO) t).1 hf) s k d).trans (congrArg G (emb12 m hO t ⟨t.val / 8, by omega⟩ rfl s k d).symm)
  have k2 : ∀ i : S32x2x16x128.Idx, ∃ t : Fin (cfgM m hO).N, ((cfgM m hO).win 12).flush t = true ∧ i ∈ (((cfgM m hO).win 12).blk t).view.set := by
    intro i
    obtain ⟨b, s, k, d, rfl⟩ := ex4 (n0 := 32) (n1 := 2) (n2 := 16) (n3 := 128) i
    have hb := b.isLt
    exact ⟨⟨8 * b.val + 7, by omega⟩, (flush0_12 (adm m hO) _).2 (by show (8 * b.val + 7) % 8 = 7; omega),
      mem_emb _ _ _ (emb12 m hO ⟨8 * b.val + 7, by omega⟩ b (by show b.val = (8 * b.val + 7) / 8; omega) s k d)⟩
  exact (DV m hO 0 c).arrAt_eq_of_emb 12 G k1 k2
end Cert.Kernel.Hand
-- ==== Proof.Attention.lean ====
/- The attention output of the kernel, as one softmax over the cached and the new tokens. -/
module

public import proofs.«01_k».proof.Proof.Run
public import proofs.«01_k».proof.Proof.BlockValues
public import proofs.«01_k».proof.Proof.BlockWords
public import proofs.«01_k».proof.Proof.TokenBlocks
public import proofs.«01_k».proof.Proof.CacheBlocks
public import proofs.«01_k».proof.Proof.OutputArrays
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Kernel.Hand
open Cert.Kernel Cert.Kernel.Gen Cert.Hand

/-- The nine arguments. -/
structure Args where
  x : FVec Ideal S32x16x32x128 .bf16
  kn : FVec Ideal S32x16x2x128 .bf16
  vn : FVec Ideal S32x16x2x128 .bf16
  kc : FVec Ideal S32x4096x2x128 .fp8e4m3
  ks : FVec Ideal S32x4096x2 .f32
  vc : FVec Ideal S32x4096x2x128 .fp8e4m3
  vs : FVec Ideal S32x4096x2 .f32
  L : Vec Ideal S32 .i32
  M : Vec Ideal S16x16 .i1

/-- The score of a cached token. -/
def kS (a : Args) (b : Fin 32) (h : Fin 2) (n : Fin 256) (t : Fin 4096) : EReal :=
  Scalar.select (IntOp.cmpi .slt (BitVec.ofNat 32 t.val) (a.L (ix1 b)))
    ((∑ d : Fin 128, a.kc (ix4 b t h d) * a.ks (ix3 b t h) * a.x (ix4 b ⟨n.val / 16, by omega⟩ ⟨h.val * 16 + n.val % 16, by omega⟩ d)) * Ideal.ofBits .f32 1035273459#32) (Ideal.ofBits .f32 0xFF800000#32)
/-- The same over the natural numbers. -/
def kSn (a : Args) (b : Fin 32) (h : Fin 2) (n : Fin 256) (t : ℕ) : EReal := if ht : t < 4096 then kS a b h n ⟨t, ht⟩ else ⊥
/-- The value row of a cached token. -/
def kVn (a : Args) (b : Fin 32) (h : Fin 2) (d : Fin 128) (t : ℕ) : EReal := if ht : t < 4096 then a.vc (ix4 b ⟨t, ht⟩ h d) * a.vs (ix3 b ⟨t, ht⟩ h) else 0
/-- The score of a new token. -/
def nS (a : Args) (b : Fin 32) (h : Fin 2) (n : Fin 256) (t : Fin 16) : EReal :=
  if 0 < FloatOps.uitofp (F := Ideal) .f32 (a.M (ix2 ⟨n.val / 16, by omega⟩ t)) then
    (∑ d : Fin 128, kCode (fun e => a.kn (ix4 b t h e)) d * kScale (fun e => a.kn (ix4 b t h e)) * a.x (ix4 b ⟨n.val / 16, by omega⟩ ⟨h.val * 16 + n.val % 16, by omega⟩ d)) * Ideal.ofBits .f32 1035273459#32
  else Ideal.ofBits .f32 0xFF800000#32
/-- The value row of a new token. -/
def nV (a : Args) (b : Fin 32) (h : Fin 2) (d : Fin 128) (t : Fin 16) : EReal := kCode (fun e => a.vn (ix4 b t h e)) d * kScale (fun e => a.vn (ix4 b t h e))
/-- The greatest score of a new token. -/
def nM (a : Args) (b : Fin 32) (h : Fin 2) (n : Fin 256) : EReal := Finset.fold max (Ideal.ofBits .f32 0xFF800000#32) (fun t => nS a b h n t) Finset.univ

/-- What the scratch holds of batch `b` when the first `T` cached tokens are done. -/
structure InvF (a : Args) (b : Fin 32) (T : ℕ) (sm sl : FVec Ideal S2x1x256 .f32) (sa : FVec Ideal S2x128x256 .f32) (sn : FVec Ideal S2x16x256 .f32) (sv : FVec Ideal S2x16x128 .bf16) : Prop where
  on : ∀ (h : Fin 2) (n : Fin 256), Online (nM a b h n) (kSn a b h n) (kVn a b h) T (sm (ix3 h 0 n)) (sl (ix3 h 0 n)) (fun d : Fin 128 => sa (ix3 h d n))
  hsn : ∀ (h : Fin 2) (t : Fin 16) (n : Fin 256), sn (ix3 h t n) = nS a b h n t
  hsv : ∀ (h : Fin 2) (t : Fin 16) (d : Fin 128), sv (ix3 h t d) = nV a b h d t
/-- The same of the record of the scratch. -/
abbrev Inv (a : Args) (b : Fin 32) (T : ℕ) (s : St Ideal) : Prop := InvF a b T s.m s.l s.a s.sn s.sv

theorem Online.congr {D : Type} {m0 : EReal} {s : ℕ → EReal} {v : D → ℕ → EReal} {T : ℕ} {M L M' L' : EReal} {A A' : D → EReal} (h : Online m0 s v T M L A) (hM : M' = M) (hL : L' = L) (hA : ∀ d, A' d = A d) : Online m0 s v T M' L' A' := by
  obtain rfl := hM
  obtain rfl := hL
  obtain rfl : A' = A := funext hA
  exact h

theorem fold_sup {n : ℕ} (f : Fin n → EReal) : Finset.fold max (Ideal.ofBits .f32 0xFF800000#32) f Finset.univ = Finset.univ.sup f := by
  rw [negInf]; rfl

section
variable (a : Args) (b : Fin 32)

theorem scN_eq (X0 : FVec Ideal S1x16x32x128 .bf16) (X1 : FVec Ideal S1x16x2x128 .bf16) (X7 : FVec Ideal S16x256 .f32)
    (h0 : ∀ s k d, X0 (ix4 0 s k d) = a.x (ix4 b s k d)) (h1 : ∀ s k d, X1 (ix4 0 s k d) = a.kn (ix4 b s k d))
    (h7 : ∀ (j : Fin 16) (n : Fin 256), X7 (ix2 j n) = FloatOps.uitofp (F := Ideal) .f32 (a.M (ix2 ⟨n.val / 16, by omega⟩ j))) (h : Fin 2) (j : Fin 16) (n : Fin 256) :
    scN X0 X1 X7 h j n = nS a b h n j := by
  unfold scN nS
  rw [h7]
  simp only [h0, h1]

/-- The start of a batch. -/
theorem start_pure (X0 : FVec Ideal S1x16x32x128 .bf16) (X1 X2 : FVec Ideal S1x16x2x128 .bf16) (X7 : FVec Ideal S16x256 .f32)
    (h0 : ∀ s k d, X0 (ix4 0 s k d) = a.x (ix4 b s k d)) (h1 : ∀ s k d, X1 (ix4 0 s k d) = a.kn (ix4 b s k d)) (h2 : ∀ s k d, X2 (ix4 0 s k d) = a.vn (ix4 b s k d))
    (h7 : ∀ (j : Fin 16) (n : Fin 256), X7 (ix2 j n) = FloatOps.uitofp (F := Ideal) .f32 (a.M (ix2 ⟨n.val / 16, by omega⟩ j))) :
    InvF a b 0 (mIn (F := Ideal) X0 X1 X7) (lIn (F := Ideal)) (aIn (F := Ideal)) (snO (F := Ideal) X0 X1 X7) (vnO (F := Ideal) X2) := by
  refine ⟨fun h n => ?_, fun h j n => ?_, fun h j d => ?_⟩
  · have e : mIn (F := Ideal) X0 X1 X7 (ix3 h 0 n) = nM a b h n := by
      rw [mIn_val]
      exact congrArg (fun f => Finset.fold max (Ideal.ofBits .f32 0xFF800000#32) f Finset.univ) (funext fun j => scN_eq a b X0 X1 X7 h0 h1 h7 h j n)
    exact Online.congr Online.start e (lIn_val h n) (fun d => aIn_val h d n)
  · exact (snO_val X0 X1 X7 h j n).trans (scN_eq a b X0 X1 X7 h0 h1 h7 h j n)
  · refine (vnO_val X2 h j d).trans ?_
    unfold nV
    simp only [h2]

/-- A live block. -/
theorem live_pure (q : ℕ) (hq : q < 8) (v1 : BitVec 32) (hv : v1 = a.L (ix1 b)) (X0 : FVec Ideal S1x16x32x128 .bf16) (X3 X5 : FVec Ideal S1x2x512x128 .fp8e4m3) (X4 X6 : FVec Ideal S1x2x512 .f32)
    (h0 : ∀ s k d, X0 (ix4 0 s k d) = a.x (ix4 b s k d))
    (h3 : ∀ h (i : Fin 512) d (t : Fin 4096), t.val = 512 * q + i.val → X3 (ix4 0 h i d) = a.kc (ix4 b t h d)) (h4 : ∀ h (i : Fin 512) (t : Fin 4096), t.val = 512 * q + i.val → X4 (ix3 0 h i) = a.ks (ix3 b t h))
    (h5 : ∀ h (i : Fin 512) d (t : Fin 4096), t.val = 512 * q + i.val → X5 (ix4 0 h i d) = a.vc (ix4 b t h d)) (h6 : ∀ h (i : Fin 512) (t : Fin 4096), t.val = 512 * q + i.val → X6 (ix3 0 h i) = a.vs (ix3 b t h))
    (sm sl : FVec Ideal S2x1x256 .f32) (sa : FVec Ideal S2x128x256 .f32) (sn : FVec Ideal S2x16x256 .f32) (sv : FVec Ideal S2x16x128 .bf16) (hs : InvF a b (512 * q) sm sl sa sn sv) :
    InvF a b (512 * q + 512) (mUp (F := Ideal) (BitVec.ofNat 32 q) v1 X0 X3 X4 sm) (lUp (F := Ideal) (BitVec.ofNat 32 q) v1 X0 X3 X4 sm sl) (aUp (F := Ideal) (BitVec.ofNat 32 q) v1 X0 X3 X4 X5 X6 sm sa) sn sv := by
  refine ⟨fun h n => ?_, hs.hsn, hs.hsv⟩
  have hp : ∀ i : Fin 512, sc (BitVec.ofNat 32 q) v1 X0 X3 X4 h i n = kSn a b h n (512 * q + i.val) := by
    intro i
    have hi := i.isLt
    have h1 : 512 * q + i.val < 4096 := by omega
    unfold sc kSn
    rw [dif_pos h1, cmp_blk _ _ h1, hv]
    simp only [h3 h i _ ⟨_, h1⟩ rfl, h4 h i ⟨_, h1⟩ rfl, h0]
    rfl
  have hw : ∀ (d : Fin 128) (i : Fin 512), X5 (ix4 0 h i d) * X6 (ix3 0 h i) = kVn a b h d (512 * q + i.val) := by
    intro d i
    have hi := i.isLt
    have h1 : 512 * q + i.val < 4096 := by omega
    unfold kVn
    rw [dif_pos h1, h5 h i d ⟨_, h1⟩ rfl, h6 h i ⟨_, h1⟩ rfl]
  refine (hs.on h n).block 512 (M' := mUp (F := Ideal) (BitVec.ofNat 32 q) v1 X0 X3 X4 sm (ix3 h 0 n)) (L' := lUp (F := Ideal) (BitVec.ofNat 32 q) v1 X0 X3 X4 sm sl (ix3 h 0 n))
    (A' := fun d => aUp (F := Ideal) (BitVec.ofNat 32 q) v1 X0 X3 X4 X5 X6 sm sa (ix3 h d n)) hp hw ?_ ?_ (fun d => ?_)
  · rw [mUp_val]
    unfold mN
    rw [fold_sup]
  · rw [lUp_val, mUp_val]
  · show aUp (F := Ideal) (BitVec.ofNat 32 q) v1 X0 X3 X4 X5 X6 sm sa (ix3 h d n) = _
    rw [aUp_val, mUp_val]
end

variable (m : (ℓ : Loc nD τ sig) → Buf (Elt Ideal) ℓ) (hO : Ok m) (c : Dev nD)

/-- The arguments in memory. -/
def argsOf : Args := ⟨m ((c : Thread nD τ).loc main_arg0), m ((c : Thread nD τ).loc main_arg1), m ((c : Thread nD τ).loc main_arg2), m ((c : Thread nD τ).loc main_arg3), m ((c : Thread nD τ).loc main_arg4),
  m ((c : Thread nD τ).loc main_arg5), m ((c : Thread nD τ).loc main_arg6), m ((c : Thread nD τ).loc main_arg7), m ((c : Thread nD τ).loc main_arg8)⟩

attribute [local irreducible] mIn lIn aIn snO vnO mUp lUp aUp iblk word
theorem start_inv (t : Fin (cfgM m hO).N) (b : Fin 32) (hb : b.val = t.val / 8) : Inv (argsOf m c) b 0 (St.start (insAt m hO c t)) :=
  start_pure (argsOf m c) b (iblk m hO c 0 t) (iblk m hO c 1 t) (iblk m hO c 2 t) (iblk m hO c 7 t) (ib0 m hO c t b hb) (ib1 m hO c t b hb) (ib2 m hO c t b hb)
    (fun j n => (ib7 m hO c t j n).trans (v7v m c j n))

theorem dead_eq (t : Fin grid0.N) (hl : ¬ liveC (grid0.coords t) (word c (grid0.coords t) (tbl m 0))) (b : Fin 32) (hb : b.val = t.val / 8) (h : Fin 2) (n : Fin 256) (i : ℕ) (hi : i < 512) :
    kSn (argsOf m c) b h n (512 * (t.val % 8) + i) = ⊥ := by
  have h1 : 512 * (t.val % 8) + i < 4096 := by omega
  have e := (jxc t).2
  have h8 : (grid0.coords t 1).val < 8 := by omega
  rw [live_iff _ _ h8, e, word_eq m c t b hb] at hl
  unfold kSn
  rw [dif_pos h1]
  unfold kS
  rw [cmp_small _ h1]
  have h2 : ¬ (((512 * (t.val % 8) + i : ℕ) : Int) < ((argsOf m c).L (ix1 b)).toInt) := by
    intro h3
    apply hl
    refine lt_of_le_of_lt ?_ h3
    exact_mod_cast Nat.le_add_right _ _
  rw [decide_eq_false h2]
  exact (if_neg (by decide)).trans negInf

/-- One grid point, after the start of the batch. -/
theorem step_inv (t : Fin (cfgM m hO).N) (b : Fin 32) (hb : b.val = t.val / 8) (s : St Ideal) (hs : Inv (argsOf m c) b (512 * (t.val % 8)) s) :
    Inv (argsOf m c) b (512 * (t.val % 8) + 512) (s.s2 (grid0.coords t) (word c (grid0.coords t) (tbl m 0)) (insAt m hO c t)) := by
  unfold St.s2
  by_cases hl : liveC (grid0.coords t) (word c (grid0.coords t) (tbl m 0))
  · rw [if_pos hl]
    have e := live_pure (argsOf m c) b (t.val % 8) (by omega) (word c (grid0.coords t) (tbl m 0)) (word_eq m c t b hb) (iblk m hO c 0 t) (iblk m hO c 3 t) (iblk m hO c 5 t) (iblk m hO c 4 t) (iblk m hO c 6 t)
      (ib0 m hO c t b hb) (ib3 m hO c t hl b hb) (ib4 m hO c t hl b hb) (ib5 m hO c t hl b hb) (ib6 m hO c t hl b hb) s.m s.l s.a s.sn s.sv hs
    rw [(jxc t).2]
    exact e
  · rw [if_neg hl]
    exact ⟨fun h n => (hs.on h n).skip 512 fun i hi => dead_eq m c t hl b hb h n i hi, hs.hsn, hs.hsv⟩

/-- The scratch after each grid point. -/
theorem st_inv (n : ℕ) (hn : n < 256) (b : Fin 32) (hb : b.val = n / 8) : Inv (argsOf m c) b (512 * (n % 8) + 512) (stA m hO c n) := by
  have hN : grid0.N = 256 := N_0
  have hN' : (cfgM m hO).N = 256 := N_0
  induction n generalizing b with
  | zero =>
    have e := stA_of m hO c ⟨0, by omega⟩ (stA m hO c 0) (fun h => absurd rfl h)
    rw [← e]
    unfold stepS St.s1
    rw [if_pos ((hcond0_0 ⟨0, by omega⟩).mpr rfl)]
    exact step_inv m hO c ⟨0, by omega⟩ b hb _ (start_inv m hO c ⟨0, by omega⟩ b hb)
  | succ k ih =>
    have e := stA_of m hO c ⟨k + 1, by omega⟩ (stA m hO c k) (fun _ => rfl)
    rw [← e]
    unfold stepS St.s1
    by_cases h0 : (k + 1) % 8 = 0
    · rw [if_pos ((hcond0_0 ⟨k + 1, by omega⟩).mpr h0)]
      refine step_inv m hO c ⟨k + 1, by omega⟩ b hb _ ?_
      show Inv _ _ (512 * ((k + 1) % 8)) _
      rw [h0]
      exact start_inv m hO c ⟨k + 1, by omega⟩ b hb
    · rw [if_neg (fun h => h0 ((hcond0_0 ⟨k + 1, by omega⟩).mp h))]
      refine step_inv m hO c ⟨k + 1, by omega⟩ b hb _ ?_
      have i := ih (by omega) b (by omega)
      have e2 : 512 * (k % 8) + 512 = 512 * ((k + 1) % 8) := by omega
      rw [e2] at i
      exact i

/-- The kernel's attention at one position. -/
def kOut (a : Args) (b : Fin 32) (s : Fin 16) (k : Fin 32) (d : Fin 128) : EReal :=
  let h : Fin 2 := ⟨k.val / 16, by omega⟩
  let n : Fin 256 := ⟨s.val * 16 + k.val % 16, by omega⟩
  let M : EReal := nM a b h n ⊔ (Finset.range 4096).sup (kSn a b h n)
  Ideal.div ((∑ t ∈ Finset.range 4096, kVn a b h d t * Ideal.exp (kSn a b h n t - M)) + ∑ j, nV a b h d j * Ideal.exp (nS a b h n j - M))
    ((∑ t ∈ Finset.range 4096, Ideal.exp (kSn a b h n t - M)) + ∑ j, Ideal.exp (nS a b h n j - M))

theorem out8 : (DV m hO 0 c).arrAt 8 (cfgM m hO).N = (fun j => kOut (argsOf m c) (j 0) (j 1) (j 2) (j 3) : FVec Ideal S32x16x32x128 .bf16) := by
  have hN : (cfgM m hO).N = 256 := N_0
  refine fill8 m hO c _ fun t b hb h7 s k d => ?_
  have ht : t.val < 256 := lt_of_lt_of_eq t.isLt hN
  have hi := st_inv m hO c t.val ht b hb
  rw [h7] at hi
  rw [afO_8]
  refine (atO_val (stA m hO c t.val).m (stA m hO c t.val).l (stA m hO c t.val).a (stA m hO c t.val).sn (stA m hO c t.val).sv ⟨k.val / 16, by omega⟩ s ⟨k.val % 16, by omega⟩ d _ rfl k (by show k.val = k.val / 16 * 16 + k.val % 16; omega)).trans ?_
  simp only [hi.hsn, hi.hsv]
  have ho := hi.on ⟨k.val / 16, by omega⟩ ⟨s.val * 16 + k.val % 16, by omega⟩
  refine (ho.finish _ (fun d j => nV (argsOf m c) b ⟨k.val / 16, by omega⟩ d j) d).trans ?_
  rw [ho.max]
  rfl
end Cert.Kernel.Hand
-- ==== Proof.KernelValues.lean ====
/- All five results of the kernel program as functions of its arguments. -/
module

public import proofs.«01_k».proof.Proof.Run
public import proofs.«01_k».proof.Proof.BlockValues
public import proofs.«01_k».proof.Proof.BlockWords
public import proofs.«01_k».proof.Proof.TokenBlocks
public import proofs.«01_k».proof.Proof.CacheBlocks
public import proofs.«01_k».proof.Proof.OutputArrays
public import proofs.«01_k».proof.Proof.Attention
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Kernel.Hand
open Cert.Kernel Cert.Kernel.Gen Cert.Hand

/-- The kernel's codes and scales of an array of token rows. -/
def codeK (K : FVec Ideal S32x16x2x128 .bf16) : FVec Ideal S32x16x2x128 .fp8e4m3 := fun j => kCode (fun e => K (ix4 (j 0) (j 1) (j 2) e)) (j 3)
@[inherit_doc codeK] def scaleK (K : FVec Ideal S32x16x2x128 .bf16) : FVec Ideal S32x16x2 .f32 := fun j => kScale (fun e => K (ix4 (j 0) (j 1) (j 2) e))
/-- The same in the order the kernel writes them. -/
def codeT (K : FVec Ideal S32x16x2x128 .bf16) : FVec Ideal S32x2x16x128 .fp8e4m3 := fun j => kCode (fun e => K (ix4 (j 0) (j 2) (j 1) e)) (j 3)
@[inherit_doc codeT] def scaleT (K : FVec Ideal S32x16x2x128 .bf16) : FVec Ideal S32x2x16x128 .f32 := fun j => kScale (fun e => K (ix4 (j 0) (j 2) (j 1) e))

set_option maxHeartbeats 800000 in
theorem tail9 (X : Valuation τ sig (Elt Ideal)) (K : FVec Ideal S32x16x2x128 .bf16) (hK : X (Proc.devRef .tc main_v8_1) = codeT K) :
    StableHlo.after (List.flatten [hostOps1]) X (Proc.devRef .tc main_v9) = codeK K := by
  obtain ⟨C, hC⟩ : ∃ C : FVec Ideal S32x2x16x128 .fp8e4m3, X (Proc.devRef .tc main_v8_1) = C := ⟨_, rfl⟩
  have e : ∀ (b : Fin 32) (t : Fin 16) (h : Fin 2) (d : Fin 128), (StableHlo.after hostOps1 X (Proc.devRef .tc main_v9) : FVec Ideal S32x16x2x128 .fp8e4m3) (ix4 b t h d) = C (ix4 b h t d) := by
    intro b t h d
    subst hC
    simp only [hostOps1, StableHlo.after_cons, StableHlo.after_nil]
    after_results_simp
    after_results_loop
    pointwise []
    try rfl
  have hCK : C = codeT K := hC.symm.trans hK
  subst hCK
  funext j
  obtain ⟨b, t, h, d, rfl⟩ := ex4 (n0 := 32) (n1 := 16) (n2 := 2) (n3 := 128) j
  exact e b t h d
set_option maxHeartbeats 800000 in
theorem tail13 (X : Valuation τ sig (Elt Ideal)) (K : FVec Ideal S32x16x2x128 .bf16) (hK : X (Proc.devRef .tc main_v8_3) = codeT K) :
    StableHlo.after (List.flatten [hostOps1]) X (Proc.devRef .tc main_v13) = codeK K := by
  obtain ⟨C, hC⟩ : ∃ C : FVec Ideal S32x2x16x128 .fp8e4m3, X (Proc.devRef .tc main_v8_3) = C := ⟨_, rfl⟩
  have e : ∀ (b : Fin 32) (t : Fin 16) (h : Fin 2) (d : Fin 128), (StableHlo.after hostOps1 X (Proc.devRef .tc main_v13) : FVec Ideal S32x16x2x128 .fp8e4m3) (ix4 b t h d) = C (ix4 b h t d) := by
    intro b t h d
    subst hC
    simp only [hostOps1, StableHlo.after_cons, StableHlo.after_nil]
    after_results_simp
    after_results_loop
    pointwise []
    try rfl
  have hCK : C = codeT K := hC.symm.trans hK
  subst hCK
  funext j
  obtain ⟨b, t, h, d, rfl⟩ := ex4 (n0 := 32) (n1 := 16) (n2 := 2) (n3 := 128) j
  exact e b t h d
set_option maxHeartbeats 800000 in
theorem tail12 (X : Valuation τ sig (Elt Ideal)) (K : FVec Ideal S32x16x2x128 .bf16) (hK : X (Proc.devRef .tc main_v8_2) = scaleT K) :
    StableHlo.after (List.flatten [hostOps1]) X (Proc.devRef .tc main_v12) = scaleK K := by
  obtain ⟨C, hC⟩ : ∃ C : FVec Ideal S32x2x16x128 .f32, X (Proc.devRef .tc main_v8_2) = C := ⟨_, rfl⟩
  have e : ∀ (b : Fin 32) (t : Fin 16) (h : Fin 2), (StableHlo.after hostOps1 X (Proc.devRef .tc main_v12) : FVec Ideal S32x16x2 .f32) (ix3 b t h) = C (ix4 b h t 0) := by
    intro b t h
    subst hC
    simp only [hostOps1, StableHlo.after_cons, StableHlo.after_nil]
    after_results_simp
    after_results_loop
    pointwise []
    try rfl
  have hCK : C = scaleT K := hC.symm.trans hK
  subst hCK
  funext j
  refine (congrArg (StableHlo.after hostOps1 X (Proc.devRef .tc main_v12) : FVec Ideal S32x16x2 .f32) (eq_ix3 (n0 := 32) (n1 := 16) (n2 := 2) j)).trans ?_
  exact e (j 0) (j 1) (j 2)
set_option maxHeartbeats 800000 in
theorem tail16 (X : Valuation τ sig (Elt Ideal)) (K : FVec Ideal S32x16x2x128 .bf16) (hK : X (Proc.devRef .tc main_v8_4) = scaleT K) :
    StableHlo.after (List.flatten [hostOps1]) X (Proc.devRef .tc main_v16) = scaleK K := by
  obtain ⟨C, hC⟩ : ∃ C : FVec Ideal S32x2x16x128 .f32, X (Proc.devRef .tc main_v8_4) = C := ⟨_, rfl⟩
  have e : ∀ (b : Fin 32) (t : Fin 16) (h : Fin 2), (StableHlo.after hostOps1 X (Proc.devRef .tc main_v16) : FVec Ideal S32x16x2 .f32) (ix3 b t h) = C (ix4 b h t 0) := by
    intro b t h
    subst hC
    simp only [hostOps1, StableHlo.after_cons, StableHlo.after_nil]
    after_results_simp
    after_results_loop
    pointwise []
    try rfl
  have hCK : C = scaleT K := hC.symm.trans hK
  subst hCK
  funext j
  refine (congrArg (StableHlo.after hostOps1 X (Proc.devRef .tc main_v16) : FVec Ideal S32x16x2 .f32) (eq_ix3 (n0 := 32) (n1 := 16) (n2 := 2) j)).trans ?_
  exact e (j 0) (j 1) (j 2)

variable (m : (ℓ : Loc nD τ sig) → Buf (Elt Ideal) ℓ) (hO : Ok m) (c : Dev nD)
attribute [local irreducible] qcO qsO iblk
theorem out9 : (DV m hO 0 c).arrAt 9 (cfgM m hO).N = codeT (m ((c : Thread nD τ).loc main_arg1)) := by
  have hN : (cfgM m hO).N = 256 := N_0
  refine fill9 m hO c _ fun t b hb h7 s k d => ?_
  rw [afO_9]
  have hbb : b.val = (base m hO t).val / 8 := by show b.val = (t.val - t.val % 8) / 8; omega
  refine (qcO_val (iblk m hO c 1 (base m hO t)) s k d).trans ?_
  simp only [ib1 m hO c (base m hO t) b hbb]
  rfl
theorem out10 : (DV m hO 0 c).arrAt 10 (cfgM m hO).N = scaleT (m ((c : Thread nD τ).loc main_arg1)) := by
  have hN : (cfgM m hO).N = 256 := N_0
  refine fill10 m hO c _ fun t b hb h7 s k d => ?_
  rw [afO_10]
  have hbb : b.val = (base m hO t).val / 8 := by show b.val = (t.val - t.val % 8) / 8; omega
  refine (qsO_val (iblk m hO c 1 (base m hO t)) s k d).trans ?_
  simp only [ib1 m hO c (base m hO t) b hbb]
  rfl
theorem out11 : (DV m hO 0 c).arrAt 11 (cfgM m hO).N = codeT (m ((c : Thread nD τ).loc main_arg2)) := by
  have hN : (cfgM m hO).N = 256 := N_0
  refine fill11 m hO c _ fun t b hb h7 s k d => ?_
  rw [afO_11]
  have hbb : b.val = (base m hO t).val / 8 := by show b.val = (t.val - t.val % 8) / 8; omega
  refine (qcO_val (iblk m hO c 2 (base m hO t)) s k d).trans ?_
  simp only [ib2 m hO c (base m hO t) b hbb]
  rfl
theorem out12 : (DV m hO 0 c).arrAt 12 (cfgM m hO).N = scaleT (m ((c : Thread nD τ).loc main_arg2)) := by
  have hN : (cfgM m hO).N = 256 := N_0
  refine fill12 m hO c _ fun t b hb h7 s k d => ?_
  rw [afO_12]
  have hbb : b.val = (base m hO t).val / 8 := by show b.val = (t.val - t.val % 8) / 8; omega
  refine (qsO_val (iblk m hO c 2 (base m hO t)) s k d).trans ?_
  simp only [ib2 m hO c (base m hO t) b hbb]
  rfl

theorem arr_inj : Function.Injective (Pipeline.arrRef spec0) := by decide +kernel

variable (ρ : Dev nD → PrngReg)
include hO in
/-- Every run of the kernel ends with its five results at these functions of the arguments. -/
theorem ker_val : θ_run defs (onTc (τ := τ) (main (F := Ideal))) ⟨m, fun _ => 0, ρ⟩ (fun r => ∀ c : Dev nD,
    r.2.mem ((c : Thread nD τ).loc main_v8_0) = (fun j => kOut (argsOf m c) (j 0) (j 1) (j 2) (j 3) : FVec Ideal S32x16x32x128 .bf16)
      ∧ r.2.mem ((c : Thread nD τ).loc main_v9) = codeK (m ((c : Thread nD τ).loc main_arg1))
      ∧ r.2.mem ((c : Thread nD τ).loc main_v12) = scaleK (m ((c : Thread nD τ).loc main_arg1))
      ∧ r.2.mem ((c : Thread nD τ).loc main_v13) = codeK (m ((c : Thread nD τ).loc main_arg2))
      ∧ r.2.mem ((c : Thread nD τ).loc main_v16) = scaleK (m ((c : Thread nD τ).loc main_arg2))) := by
  refine (θ_run defs _ _).mono (fun r h c => ?_) (run_val m ρ hO)
  obtain ⟨h0, h1, h2, h3, h4⟩ := h c
  refine ⟨h0.trans (out8 m hO c), h1.trans ?_, h2.trans ?_, h3.trans ?_, h4.trans ?_⟩
  · exact tail9 _ _ ((Pipeline.withArrays_arr spec0 arr_inj c (V0 m c) _ 9).trans (out9 m hO c))
  · exact tail12 _ _ ((Pipeline.withArrays_arr spec0 arr_inj c (V0 m c) _ 10).trans (out10 m hO c))
  · exact tail13 _ _ ((Pipeline.withArrays_arr spec0 arr_inj c (V0 m c) _ 11).trans (out11 m hO c))
  · exact tail16 _ _ ((Pipeline.withArrays_arr spec0 arr_inj c (V0 m c) _ 12).trans (out12 m hO c))
end Cert.Kernel.Hand
-- ==== Proof.ReferenceOps.lean ====
/- The operations of the reference at one index. -/
module

public import proofs.«01_k».proof.Proof.Gen.ReferenceIdeal.Frame
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL.Sem
namespace Cert.ReferenceIdeal.Hand
open Cert.ReferenceIdeal Cert.ReferenceIdeal.Gen

set_option maxHeartbeats 3200000 in
theorem r_sc (X : Valuation τ sig (Elt Ideal)) (b : Fin 32) (h : Fin 2) (s g : Fin 16) (t : Fin 4096) (Q : FVec Ideal S32x16x32x128 .bf16) (hQ : X (Proc.devRef .tc main_arg0) = Q) (K : FVec Ideal S32x4096x2x128 .bf16) (hK : X (Proc.devRef .tc main_v0_4) = K) (L : Vec Ideal S32 .i32) (hL : X (Proc.devRef .tc main_arg7) = L) :
    (StableHlo.after hostOps1_1 (StableHlo.after hostOps1 X) (Proc.devRef .tc main_v12) : FVec Ideal S32x2x16x16x4096 .f32) (ix5 b h s g t)
      = Scalar.select (IntOp.cmpi CmpIPredicate.slt (BitVec.ofNat 32 t.val) (L (ix1 b))) ((∑ x, Q (ix4 b s ⟨h.val * 16 + g.val, by omega⟩ x) * K (ix4 b t h x)) * Ideal.ofBits FTy.f32 1035273459#32) (Ideal.ofBits FTy.f32 4286578688#32) := by
  subst hQ hK hL
  simp only [hostOps1, hostOps1_1, StableHlo.after_cons, StableHlo.after_nil]
  after_results_simp
  after_results_loop
  all_goals try simp -implicitDefEqProofs only [StableHlo.TRef.toBuf, StableHlo.TRef.ofBuf, cast_cast, cast_eq]
  clean_types
  pointwise []
  rfl
set_option maxHeartbeats 3200000 in
theorem r_q (X : Valuation τ sig (Elt Ideal)) (b : Fin 32) (h : Fin 2) (s g : Fin 16) (d : Fin 128) (Q : FVec Ideal S32x16x32x128 .bf16) (hQ : X (Proc.devRef .tc main_arg0) = Q) :
    (StableHlo.after hostOps1_1 (StableHlo.after hostOps1 X) (Proc.devRef .tc main_v1) : FVec Ideal S32x16x2x16x128 .bf16) (ix5 b s h g d)
      = Q (ix4 b s ⟨h.val * 16 + g.val, by omega⟩ d) := by
  subst hQ
  simp only [hostOps1, hostOps1_1, StableHlo.after_cons, StableHlo.after_nil]
  after_results_simp
  after_results_loop
  all_goals try simp -implicitDefEqProofs only [StableHlo.TRef.toBuf, StableHlo.TRef.ofBuf, cast_cast, cast_eq]
  clean_types
  pointwise []
set_option maxHeartbeats 3200000 in
theorem r_sn (X : Valuation τ sig (Elt Ideal)) (b : Fin 32) (h : Fin 2) (s g : Fin 16) (t : Fin 16) (Q : FVec Ideal S32x16x2x16x128 .bf16) (hQ : X (Proc.devRef .tc main_v1) = Q) (K : FVec Ideal S32x16x2x128 .bf16) (hK : X (Proc.devRef .tc main_v0_6) = K) (L : Vec Ideal S16x16 .i1) (hL : X (Proc.devRef .tc main_arg8) = L) :
    (StableHlo.after hostOps1_3 (StableHlo.after hostOps1_2 X) (Proc.devRef .tc main_v17) : FVec Ideal S32x2x16x16x16 .f32) (ix5 b h s g t)
      = Scalar.select (L (ix2 s t)) ((∑ x, Q (ix5 b s h g x) * K (ix4 b t h x)) * Ideal.ofBits FTy.f32 1035273459#32) (Ideal.ofBits FTy.f32 4286578688#32) := by
  subst hQ hK hL
  simp only [hostOps1_2, hostOps1_3, StableHlo.after_cons, StableHlo.after_nil]
  after_results_simp
  after_results_loop
  all_goals try simp -implicitDefEqProofs only [StableHlo.TRef.toBuf, StableHlo.TRef.ofBuf, cast_cast, cast_eq]
  clean_types
  pointwise []
  rfl
set_option maxHeartbeats 3200000 in
theorem r_ec (X : Valuation τ sig (Elt Ideal)) (b : Fin 32) (h : Fin 2) (s g : Fin 16) (t : Fin 4096) (S : FVec Ideal S32x2x16x16x4096 .f32) (hS : X (Proc.devRef .tc main_v12) = S) (M : FVec Ideal S32x2x16x16x1 .f32) (hM : X (Proc.devRef .tc main_v22) = M) :
    (StableHlo.after ((hostOps1_4.drop 7).take 6) X (Proc.devRef .tc main_v25) : FVec Ideal S32x2x16x16x4096 .f32) (ix5 b h s g t)
      = Ideal.exp (S (ix5 b h s g t) - M (ix5 b h s g 0)) := by
  subst hS hM
  simp only [hostOps1_4, List.drop_succ_cons, List.drop_zero, List.take_succ_cons, List.take_zero, StableHlo.after_cons, StableHlo.after_nil]
  after_results_simp
  after_results_loop
  all_goals try simp -implicitDefEqProofs only [StableHlo.TRef.toBuf, StableHlo.TRef.ofBuf, cast_cast, cast_eq]
  clean_types
  pointwise []
set_option maxHeartbeats 3200000 in
theorem r_en (X : Valuation τ sig (Elt Ideal)) (b : Fin 32) (h : Fin 2) (s g : Fin 16) (t : Fin 16) (S : FVec Ideal S32x2x16x16x16 .f32) (hS : X (Proc.devRef .tc main_v17) = S) (M : FVec Ideal S32x2x16x16x1 .f32) (hM : X (Proc.devRef .tc main_v22) = M) :
    (StableHlo.after ((hostOps1_4.drop 7).take 6) X (Proc.devRef .tc main_v28) : FVec Ideal S32x2x16x16x16 .f32) (ix5 b h s g t)
      = Ideal.exp (S (ix5 b h s g t) - M (ix5 b h s g 0)) := by
  subst hS hM
  simp only [hostOps1_4, List.drop_succ_cons, List.drop_zero, List.take_succ_cons, List.take_zero, StableHlo.after_cons, StableHlo.after_nil]
  after_results_simp
  after_results_loop
  all_goals try simp -implicitDefEqProofs only [StableHlo.TRef.toBuf, StableHlo.TRef.ofBuf, cast_cast, cast_eq]
  clean_types
  pointwise []
set_option maxHeartbeats 3200000 in
theorem r_den (X : Valuation τ sig (Elt Ideal)) (b : Fin 32) (h : Fin 2) (s g : Fin 16) (S : FVec Ideal S32x2x16x16x4096 .f32) (hS : X (Proc.devRef .tc main_v25) = S) (N : FVec Ideal S32x2x16x16x16 .f32) (hN : X (Proc.devRef .tc main_v28) = N) :
    (StableHlo.after ((hostOps1_4.drop 13).take 7) X (Proc.devRef .tc main_v33) : FVec Ideal S32x2x16x16x1 .f32) (ix5 b h s g 0)
      = (∑ x, S (ix5 b h s g x)) + ∑ x, N (ix5 b h s g x) := by
  subst hS hN
  simp only [hostOps1_4, List.drop_succ_cons, List.drop_zero, List.take_succ_cons, List.take_zero, StableHlo.after_cons, StableHlo.after_nil]
  after_results_simp
  after_results_loop
  all_goals try simp -implicitDefEqProofs only [StableHlo.TRef.toBuf, StableHlo.TRef.ofBuf, cast_cast, cast_eq]
  clean_types
  pointwise []
set_option maxHeartbeats 3200000 in
theorem r_out (X : Valuation τ sig (Elt Ideal)) (b : Fin 32) (s : Fin 16) (k : Fin 32) (d : Fin 128) (S : FVec Ideal S32x2x16x16x4096 .f32) (hS : X (Proc.devRef .tc main_v25) = S) (N : FVec Ideal S32x2x16x16x16 .f32) (hN : X (Proc.devRef .tc main_v28) = N) (M : FVec Ideal S32x2x16x16x1 .f32) (hM : X (Proc.devRef .tc main_v33) = M) (VC : FVec Ideal S32x4096x2x128 .bf16) (hVC : X (Proc.devRef .tc main_v0_5) = VC) (VN : FVec Ideal S32x16x2x128 .bf16) (hVN : X (Proc.devRef .tc main_v0_7) = VN) :
    (StableHlo.after (hostOps1_4.drop 20) X (Proc.devRef .tc main_v45) : FVec Ideal S32x16x32x128 .bf16) (ix4 b s k d)
      = Ideal.div ((∑ x, VC (ix4 b x ⟨k.val / 16, by omega⟩ d) * S (ix5 b ⟨k.val / 16, by omega⟩ s ⟨k.val % 16, by omega⟩ x)) + ∑ x, VN (ix4 b x ⟨k.val / 16, by omega⟩ d) * N (ix5 b ⟨k.val / 16, by omega⟩ s ⟨k.val % 16, by omega⟩ x)) (M (ix5 b ⟨k.val / 16, by omega⟩ s ⟨k.val % 16, by omega⟩ 0)) := by
  subst hS hN hM hVC hVN
  simp only [hostOps1_4, List.drop_succ_cons, List.drop_zero, List.take_succ_cons, List.take_zero, StableHlo.after_cons, StableHlo.after_nil]
  after_results_simp
  after_results_loop
  all_goals try simp -implicitDefEqProofs only [StableHlo.TRef.toBuf, StableHlo.TRef.ofBuf, cast_cast, cast_eq]
  clean_types
  pointwise []
theorem hmax5 {n0 n1 n2 n3 n4 : ℕ} {u : Shape} (v : FVec Ideal ⟨5, ![n0, n1, n2, n3, n4]⟩ .f32) (c : FVec Ideal u .f32) (h : (⟨5, ![n0, n1, n2, n3, n4]⟩ : Shape).ReducesTo [4] ⟨4, ![n0, n1, n2, n3]⟩) (hu : 0 < u.numel)
    (i0 : Fin n0) (i1 : Fin n1) (i2 : Fin n2) (i3 : Fin n3) :
    Host.reduce FloatOps.maximumf v c h hu (ix4 i0 i1 i2 i3) = Finset.univ.fold max (c (Shape.Idx.first hu)) fun k : Fin n4 => v (ix5 i0 i1 i2 i3 k) := by
  simp only [pointwise]
def mxR (S : FVec Ideal S32x2x16x16x4096 .f32) (N : FVec Ideal S32x2x16x16x16 .f32) : FVec Ideal S32x2x16x16x1 .f32 :=
  maximumf (broadcastInDim S32x2x16x16x1 ![0, 1, 2, 3] bcast_S32x2x16x16_S32x2x16x16x1_0_1_2_3 (Host.reduce FloatOps.maximumf S (constant S_ .f32 0xFF800000#32) reducesTo_S32x2x16x16x4096_S32x2x16x16_d4 h_S_))
    (broadcastInDim S32x2x16x16x1 ![0, 1, 2, 3] bcast_S32x2x16x16_S32x2x16x16x1_0_1_2_3 (Host.reduce FloatOps.maximumf N (constant S_ .f32 0xFF800000#32) reducesTo_S32x2x16x16x16_S32x2x16x16_d4 h_S_))
set_option maxHeartbeats 3200000 in
theorem h1a (S : FVec Ideal S32x2x16x16x4096 .f32) (b : Fin 32) (h : Fin 2) (s g : Fin 16) : Host.reduce FloatOps.maximumf S (constant S_ .f32 0xFF800000#32) reducesTo_S32x2x16x16x4096_S32x2x16x16_d4 h_S_ (ix4 b h s g) = Finset.univ.fold max ((constant S_ .f32 0xFF800000#32 : FVec Ideal S_ .f32) (Shape.Idx.first h_S_)) fun k : Fin 4096 => S (ix5 b h s g k) := hmax5 S (constant S_ .f32 0xFF800000#32) reducesTo_S32x2x16x16x4096_S32x2x16x16_d4 h_S_ b h s g
set_option maxHeartbeats 3200000 in
theorem h1n (S : FVec Ideal S32x2x16x16x16 .f32) (b : Fin 32) (h : Fin 2) (s g : Fin 16) : Host.reduce FloatOps.maximumf S (constant S_ .f32 0xFF800000#32) reducesTo_S32x2x16x16x16_S32x2x16x16_d4 h_S_ (ix4 b h s g) = Finset.univ.fold max ((constant S_ .f32 0xFF800000#32 : FVec Ideal S_ .f32) (Shape.Idx.first h_S_)) fun k : Fin 16 => S (ix5 b h s g k) := hmax5 S (constant S_ .f32 0xFF800000#32) reducesTo_S32x2x16x16x16_S32x2x16x16_d4 h_S_ b h s g
set_option maxHeartbeats 3200000 in
theorem h1b (R1 R2 : FVec Ideal S32x2x16x16 .f32) (b : Fin 32) (h : Fin 2) (s g : Fin 16) : (maximumf (broadcastInDim S32x2x16x16x1 ![0, 1, 2, 3] bcast_S32x2x16x16_S32x2x16x16x1_0_1_2_3 R1)
    (broadcastInDim S32x2x16x16x1 ![0, 1, 2, 3] bcast_S32x2x16x16_S32x2x16x16x1_0_1_2_3 R2) : FVec Ideal S32x2x16x16x1 .f32) (ix5 b h s g 0) = max (R1 (ix4 b h s g)) (R2 (ix4 b h s g)) := by
  pointwise []
theorem mxR_val (S : FVec Ideal S32x2x16x16x4096 .f32) (N : FVec Ideal S32x2x16x16x16 .f32) (b : Fin 32) (h : Fin 2) (s g : Fin 16) : mxR S N (ix5 b h s g 0)
      = max (Finset.fold max (Ideal.ofBits FTy.f32 4286578688#32) (fun x => S (ix5 b h s g x)) Finset.univ) (Finset.fold max (Ideal.ofBits FTy.f32 4286578688#32) (fun x => N (ix5 b h s g x)) Finset.univ) :=
  (h1b _ _ b h s g).trans (congrArg₂ max (h1a S b h s g) (h1n N b h s g))
set_option maxHeartbeats 3200000 in
theorem r_max (X : Valuation τ sig (Elt Ideal)) (S : FVec Ideal S32x2x16x16x4096 .f32) (hS : X (Proc.devRef .tc main_v12) = S) (N : FVec Ideal S32x2x16x16x16 .f32) (hN : X (Proc.devRef .tc main_v17) = N) :
    (StableHlo.after (hostOps1_4.take 7) X (Proc.devRef .tc main_v22) : FVec Ideal S32x2x16x16x1 .f32) = mxR S N := by
  subst hS hN
  simp only [hostOps1_4, List.drop_succ_cons, List.drop_zero, List.take_succ_cons, List.take_zero, StableHlo.after_cons, StableHlo.after_nil]
  after_results_simp
  after_results_loop
  rfl
theorem k8 (X : Valuation τ sig (Elt Ideal)) : (StableHlo.after hostOps1_1 (StableHlo.after hostOps1 X)) (Proc.devRef .tc main_arg8) = X (Proc.devRef .tc main_arg8) := by
  simp only [hostOps1, hostOps1_1, List.drop_succ_cons, List.drop_zero, List.take_succ_cons, List.take_zero, StableHlo.after_cons, StableHlo.after_nil]
  after_results_simp
theorem k06 (X : Valuation τ sig (Elt Ideal)) : (StableHlo.after hostOps1_1 (StableHlo.after hostOps1 X)) (Proc.devRef .tc main_v0_6) = X (Proc.devRef .tc main_v0_6) := by
  simp only [hostOps1, hostOps1_1, List.drop_succ_cons, List.drop_zero, List.take_succ_cons, List.take_zero, StableHlo.after_cons, StableHlo.after_nil]
  after_results_simp
theorem k05 (X : Valuation τ sig (Elt Ideal)) : (StableHlo.after hostOps1_1 (StableHlo.after hostOps1 X)) (Proc.devRef .tc main_v0_5) = X (Proc.devRef .tc main_v0_5) := by
  simp only [hostOps1, hostOps1_1, List.drop_succ_cons, List.drop_zero, List.take_succ_cons, List.take_zero, StableHlo.after_cons, StableHlo.after_nil]
  after_results_simp
theorem k07 (X : Valuation τ sig (Elt Ideal)) : (StableHlo.after hostOps1_1 (StableHlo.after hostOps1 X)) (Proc.devRef .tc main_v0_7) = X (Proc.devRef .tc main_v0_7) := by
  simp only [hostOps1, hostOps1_1, List.drop_succ_cons, List.drop_zero, List.take_succ_cons, List.take_zero, StableHlo.after_cons, StableHlo.after_nil]
  after_results_simp
theorem k12 (X : Valuation τ sig (Elt Ideal)) : (StableHlo.after hostOps1_3 (StableHlo.after hostOps1_2 X)) (Proc.devRef .tc main_v12) = X (Proc.devRef .tc main_v12) := by
  simp only [hostOps1_2, hostOps1_3, List.drop_succ_cons, List.drop_zero, List.take_succ_cons, List.take_zero, StableHlo.after_cons, StableHlo.after_nil]
  after_results_simp
theorem k05b (X : Valuation τ sig (Elt Ideal)) : (StableHlo.after hostOps1_3 (StableHlo.after hostOps1_2 X)) (Proc.devRef .tc main_v0_5) = X (Proc.devRef .tc main_v0_5) := by
  simp only [hostOps1_2, hostOps1_3, List.drop_succ_cons, List.drop_zero, List.take_succ_cons, List.take_zero, StableHlo.after_cons, StableHlo.after_nil]
  after_results_simp
theorem k07b (X : Valuation τ sig (Elt Ideal)) : (StableHlo.after hostOps1_3 (StableHlo.after hostOps1_2 X)) (Proc.devRef .tc main_v0_7) = X (Proc.devRef .tc main_v0_7) := by
  simp only [hostOps1_2, hostOps1_3, List.drop_succ_cons, List.drop_zero, List.take_succ_cons, List.take_zero, StableHlo.after_cons, StableHlo.after_nil]
  after_results_simp
theorem kA12 (X : Valuation τ sig (Elt Ideal)) : (StableHlo.after (hostOps1_4.take 7) X) (Proc.devRef .tc main_v12) = X (Proc.devRef .tc main_v12) := by
  simp only [hostOps1_4, List.drop_succ_cons, List.drop_zero, List.take_succ_cons, List.take_zero, StableHlo.after_cons, StableHlo.after_nil]
  after_results_simp
theorem kA17 (X : Valuation τ sig (Elt Ideal)) : (StableHlo.after (hostOps1_4.take 7) X) (Proc.devRef .tc main_v17) = X (Proc.devRef .tc main_v17) := by
  simp only [hostOps1_4, List.drop_succ_cons, List.drop_zero, List.take_succ_cons, List.take_zero, StableHlo.after_cons, StableHlo.after_nil]
  after_results_simp
theorem kA0_5 (X : Valuation τ sig (Elt Ideal)) : (StableHlo.after (hostOps1_4.take 7) X) (Proc.devRef .tc main_v0_5) = X (Proc.devRef .tc main_v0_5) := by
  simp only [hostOps1_4, List.drop_succ_cons, List.drop_zero, List.take_succ_cons, List.take_zero, StableHlo.after_cons, StableHlo.after_nil]
  after_results_simp
theorem kA0_7 (X : Valuation τ sig (Elt Ideal)) : (StableHlo.after (hostOps1_4.take 7) X) (Proc.devRef .tc main_v0_7) = X (Proc.devRef .tc main_v0_7) := by
  simp only [hostOps1_4, List.drop_succ_cons, List.drop_zero, List.take_succ_cons, List.take_zero, StableHlo.after_cons, StableHlo.after_nil]
  after_results_simp
theorem kB0_5 (X : Valuation τ sig (Elt Ideal)) : (StableHlo.after ((hostOps1_4.drop 7).take 6) X) (Proc.devRef .tc main_v0_5) = X (Proc.devRef .tc main_v0_5) := by
  simp only [hostOps1_4, List.drop_succ_cons, List.drop_zero, List.take_succ_cons, List.take_zero, StableHlo.after_cons, StableHlo.after_nil]
  after_results_simp
theorem kB0_7 (X : Valuation τ sig (Elt Ideal)) : (StableHlo.after ((hostOps1_4.drop 7).take 6) X) (Proc.devRef .tc main_v0_7) = X (Proc.devRef .tc main_v0_7) := by
  simp only [hostOps1_4, List.drop_succ_cons, List.drop_zero, List.take_succ_cons, List.take_zero, StableHlo.after_cons, StableHlo.after_nil]
  after_results_simp
theorem kC25 (X : Valuation τ sig (Elt Ideal)) : (StableHlo.after ((hostOps1_4.drop 13).take 7) X) (Proc.devRef .tc main_v25) = X (Proc.devRef .tc main_v25) := by
  simp only [hostOps1_4, List.drop_succ_cons, List.drop_zero, List.take_succ_cons, List.take_zero, StableHlo.after_cons, StableHlo.after_nil]
  after_results_simp
theorem kC28 (X : Valuation τ sig (Elt Ideal)) : (StableHlo.after ((hostOps1_4.drop 13).take 7) X) (Proc.devRef .tc main_v28) = X (Proc.devRef .tc main_v28) := by
  simp only [hostOps1_4, List.drop_succ_cons, List.drop_zero, List.take_succ_cons, List.take_zero, StableHlo.after_cons, StableHlo.after_nil]
  after_results_simp
theorem kC0_5 (X : Valuation τ sig (Elt Ideal)) : (StableHlo.after ((hostOps1_4.drop 13).take 7) X) (Proc.devRef .tc main_v0_5) = X (Proc.devRef .tc main_v0_5) := by
  simp only [hostOps1_4, List.drop_succ_cons, List.drop_zero, List.take_succ_cons, List.take_zero, StableHlo.after_cons, StableHlo.after_nil]
  after_results_simp
theorem kC0_7 (X : Valuation τ sig (Elt Ideal)) : (StableHlo.after ((hostOps1_4.drop 13).take 7) X) (Proc.devRef .tc main_v0_7) = X (Proc.devRef .tc main_v0_7) := by
  simp only [hostOps1_4, List.drop_succ_cons, List.drop_zero, List.take_succ_cons, List.take_zero, StableHlo.after_cons, StableHlo.after_nil]
  after_results_simp
/-- The masked score of cached token `t`. -/
def scR (Q : FVec Ideal S32x16x32x128 .bf16) (K : FVec Ideal S32x4096x2x128 .bf16) (L : Vec Ideal S32 .i32) (b : Fin 32) (h : Fin 2) (s g : Fin 16) (t : Fin 4096) : EReal :=
  Scalar.select (IntOp.cmpi CmpIPredicate.slt (BitVec.ofNat 32 t.val) (L (ix1 b))) ((∑ x, Q (ix4 b s ⟨h.val * 16 + g.val, by omega⟩ x) * K (ix4 b t h x)) * Ideal.ofBits FTy.f32 1035273459#32) (Ideal.ofBits FTy.f32 4286578688#32)
/-- The masked score of new token `t`. -/
def snR (Q : FVec Ideal S32x16x32x128 .bf16) (K : FVec Ideal S32x16x2x128 .bf16) (L : Vec Ideal S16x16 .i1) (b : Fin 32) (h : Fin 2) (s g : Fin 16) (t : Fin 16) : EReal :=
  Scalar.select (L (ix2 s t)) ((∑ x, Q (ix4 b s ⟨h.val * 16 + g.val, by omega⟩ x) * K (ix4 b t h x)) * Ideal.ofBits FTy.f32 1035273459#32) (Ideal.ofBits FTy.f32 4286578688#32)
/-- The attention of one query over cached scores `S` and new scores `N`, divided once. -/
def attn (S : Fin 4096 → EReal) (N : Fin 16 → EReal) (VC : Fin 4096 → EReal) (VN : Fin 16 → EReal) : EReal :=
  Ideal.div ((∑ x, VC x * Ideal.exp (S x - max (Finset.fold max (Ideal.ofBits FTy.f32 4286578688#32) S Finset.univ) (Finset.fold max (Ideal.ofBits FTy.f32 4286578688#32) N Finset.univ))) + ∑ x, VN x * Ideal.exp (N x - max (Finset.fold max (Ideal.ofBits FTy.f32 4286578688#32) S Finset.univ) (Finset.fold max (Ideal.ofBits FTy.f32 4286578688#32) N Finset.univ)))
    ((∑ x, Ideal.exp (S x - max (Finset.fold max (Ideal.ofBits FTy.f32 4286578688#32) S Finset.univ) (Finset.fold max (Ideal.ofBits FTy.f32 4286578688#32) N Finset.univ))) + ∑ x, Ideal.exp (N x - max (Finset.fold max (Ideal.ofBits FTy.f32 4286578688#32) S Finset.univ) (Finset.fold max (Ideal.ofBits FTy.f32 4286578688#32) N Finset.univ)))
theorem r_split (Y : Valuation τ sig (Elt Ideal)) : StableHlo.after hostOps1_4 Y
    = StableHlo.after (hostOps1_4.drop 20) (StableHlo.after ((hostOps1_4.drop 13).take 7) (StableHlo.after ((hostOps1_4.drop 7).take 6) (StableHlo.after (hostOps1_4.take 7) Y))) := rfl
theorem r_out_all (Y : Valuation τ sig (Elt Ideal)) (S : FVec Ideal S32x2x16x16x4096 .f32) (hS : Y (Proc.devRef .tc main_v12) = S) (N : FVec Ideal S32x2x16x16x16 .f32) (hN : Y (Proc.devRef .tc main_v17) = N)
    (VC : FVec Ideal S32x4096x2x128 .bf16) (hVC : Y (Proc.devRef .tc main_v0_5) = VC) (VN : FVec Ideal S32x16x2x128 .bf16) (hVN : Y (Proc.devRef .tc main_v0_7) = VN) (b : Fin 32) (s : Fin 16) (k : Fin 32) (d : Fin 128) :
    (StableHlo.after hostOps1_4 Y (Proc.devRef .tc main_v45) : FVec Ideal S32x16x32x128 .bf16) (ix4 b s k d)
      = attn (fun t => S (ix5 b ⟨k.val / 16, by omega⟩ s ⟨k.val % 16, by omega⟩ t)) (fun t => N (ix5 b ⟨k.val / 16, by omega⟩ s ⟨k.val % 16, by omega⟩ t)) (fun t => VC (ix4 b t ⟨k.val / 16, by omega⟩ d)) (fun t => VN (ix4 b t ⟨k.val / 16, by omega⟩ d)) := by
  have hM := r_max Y S hS N hN
  have e1 := fun h g t => r_ec (StableHlo.after (hostOps1_4.take 7) Y) b h s g t S ((kA12 Y).trans hS) _ hM
  have e2 := fun h g t => r_en (StableHlo.after (hostOps1_4.take 7) Y) b h s g t N ((kA17 Y).trans hN) _ hM
  have e3 := fun h g => r_den (StableHlo.after ((hostOps1_4.drop 7).take 6) (StableHlo.after (hostOps1_4.take 7) Y)) b h s g _ rfl _ rfl
  have e4 := r_out (StableHlo.after ((hostOps1_4.drop 13).take 7) (StableHlo.after ((hostOps1_4.drop 7).take 6) (StableHlo.after (hostOps1_4.take 7) Y))) b s k d
    _ (kC25 _) _ (kC28 _) _ rfl VC ((kC0_5 _).trans ((kB0_5 _).trans ((kA0_5 _).trans hVC))) VN ((kC0_7 _).trans ((kB0_7 _).trans ((kA0_7 _).trans hVN)))
  rw [r_split]
  refine e4.trans ?_
  rw [e3]
  simp only [e1, e2, mxR_val]
  rfl
theorem r_final (X : Valuation τ sig (Elt Ideal)) (Q : FVec Ideal S32x16x32x128 .bf16) (hQ : X (Proc.devRef .tc main_arg0) = Q) (L : Vec Ideal S32 .i32) (hL : X (Proc.devRef .tc main_arg7) = L)
    (M : Vec Ideal S16x16 .i1) (hM : X (Proc.devRef .tc main_arg8) = M) (K4 : FVec Ideal S32x4096x2x128 .bf16) (h4 : X (Proc.devRef .tc main_v0_4) = K4) (V5 : FVec Ideal S32x4096x2x128 .bf16) (h5 : X (Proc.devRef .tc main_v0_5) = V5)
    (K6 : FVec Ideal S32x16x2x128 .bf16) (h6 : X (Proc.devRef .tc main_v0_6) = K6) (V7 : FVec Ideal S32x16x2x128 .bf16) (h7 : X (Proc.devRef .tc main_v0_7) = V7) (b : Fin 32) (s : Fin 16) (k : Fin 32) (d : Fin 128) :
    (StableHlo.after (List.flatten [hostOps1, hostOps1_1, hostOps1_2, hostOps1_3, hostOps1_4]) X (Proc.devRef .tc main_v45) : FVec Ideal S32x16x32x128 .bf16) (ix4 b s k d)
      = attn (scR Q K4 L b ⟨k.val / 16, by omega⟩ s ⟨k.val % 16, by omega⟩) (snR Q K6 M b ⟨k.val / 16, by omega⟩ s ⟨k.val % 16, by omega⟩) (fun t => V5 (ix4 b t ⟨k.val / 16, by omega⟩ d)) (fun t => V7 (ix4 b t ⟨k.val / 16, by omega⟩ d)) := by
  have e : StableHlo.after (List.flatten [hostOps1, hostOps1_1, hostOps1_2, hostOps1_3, hostOps1_4]) X
      = StableHlo.after hostOps1_4 (StableHlo.after hostOps1_3 (StableHlo.after hostOps1_2 (StableHlo.after hostOps1_1 (StableHlo.after hostOps1 X)))) := rfl
  rw [e]
  have es := fun h g t => r_sc X b h s g t Q hQ K4 h4 L hL
  have eq := fun h g d => r_q X b h s g d Q hQ
  have en := fun h g t => r_sn (StableHlo.after hostOps1_1 (StableHlo.after hostOps1 X)) b h s g t _ rfl K6 ((k06 X).trans h6) M ((k8 X).trans hM)
  refine (r_out_all _ _ (k12 _) _ rfl V5 ((k05b _).trans ((k05 _).trans h5)) V7 ((k07b _).trans ((k07 _).trans h7)) b s k d).trans ?_
  simp only [es, eq, en]
  rfl
end Cert.ReferenceIdeal.Hand
-- ==== Proof.ReferenceArrays.lean ====
/- The arrays of the reference as functions of its arguments. -/
module

public import proofs.«01_k».proof.Proof.Gen.ReferenceIdeal.Frame
public import proofs.«01_k».proof.Proof.Quantiser
public import proofs.«01_k».proof.Proof.ReferenceOps
public import proofs.«01_k».proof.Proof.ReferenceOps
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.ReferenceIdeal.Hand
open Cert.ReferenceIdeal Cert.ReferenceIdeal.Gen Cert.Hand
variable (m : (ℓ : Loc nD τ sig) → Buf (Elt Ideal) ℓ) (c : Dev nD) (dat : Dat τ (Elt Ideal) Unit ℕ (UR sig nD τ) ℕ cfg0 c)

/-- The codes of an array of token rows. -/
def codeA (K : FVec Ideal S32x16x2x128 .bf16) : FVec Ideal S32x16x2x128 .fp8e4m3 := fun j => rCode (fun e => K (ix4 (j 0) (j 1) (j 2) e)) (j 3)
/-- Their scales. -/
def scaleA (K : FVec Ideal S32x16x2x128 .bf16) : FVec Ideal S32x16x2 .f32 := fun j => rScale (fun e => K (ix4 (j 0) (j 1) (j 2) e))
/-- The dequantised rows. -/
def deqA (K : FVec Ideal S32x16x2x128 .bf16) : FVec Ideal S32x16x2x128 .bf16 := fun j => rCode (fun e => K (ix4 (j 0) (j 1) (j 2) e)) (j 3) * rScale (fun e => K (ix4 (j 0) (j 1) (j 2) e))
/-- The dequantised cache. -/
def cacheA (K : FVec Ideal S32x4096x2x128 .fp8e4m3) (S : FVec Ideal S32x4096x2 .f32) : FVec Ideal S32x4096x2x128 .bf16 := fun j => K (ix4 (j 0) (j 1) (j 2) (j 3)) * S (ix3 (j 0) (j 1) (j 2))
theorem idx : ∀ t : Fin cfg0.N, win0_0.index t = ![0, 0, 0, 0] ∧ win0_1.index t = ![0, 0, 0, 0] ∧ win0_2.index t = ![0, 0, 0, 0] ∧ win0_3.index t = ![0, 0, 0] ∧ win0_4.index t = ![0, 0, 0, 0] ∧ win0_5.index t = ![0, 0, 0] ∧ win0_6.index t = ![0, 0, 0, 0] ∧ win0_7.index t = ![0, 0, 0] ∧ win0_8.index t = ![0, 0, 0, 0] ∧ win0_9.index t = ![0, 0, 0] ∧ win0_10.index t = ![0, 0, 0, 0] ∧ win0_11.index t = ![0, 0, 0, 0] ∧ win0_12.index t = ![0, 0, 0, 0] ∧ win0_13.index t = ![0, 0, 0, 0] :=
  (by decide +kernel : ∀ t : Fin grid0.N, _)
set_option maxHeartbeats 1600000 in
theorem o6 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_6 x0 x1 x2 x3 x4 x5 (ix4 b t h d) = rCode (fun e => x0 (ix4 b t h e)) d := by
  unfold_out out0_6
  frame_out
  pointwise [k0_pay7, k0_pay5, k0_pay4, rCode, rScale, rowMax, expoR]
set_option maxHeartbeats 1600000 in
theorem o7 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_7 x0 x1 x2 x3 x4 x5 (ix3 b t h) = rScale (fun e => x0 (ix4 b t h e)) := by
  unfold_out out0_7
  frame_out
  pointwise [k0_pay6, k0_pay5, k0_pay4, rCode, rScale, rowMax, expoR]
set_option maxHeartbeats 1600000 in
theorem o8 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_8 x0 x1 x2 x3 x4 x5 (ix4 b t h d) = rCode (fun e => x1 (ix4 b t h e)) d := by
  unfold_out out0_8
  frame_out
  pointwise [k0_pay15, k0_pay14, k0_pay13, k0_pay12, k0_pay11, k0_pay10, k0_pay9, k0_pay8, rCode, rScale, rowMax, expoR]
set_option maxHeartbeats 1600000 in
theorem o9 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_9 x0 x1 x2 x3 x4 x5 (ix3 b t h) = rScale (fun e => x1 (ix4 b t h e)) := by
  unfold_out out0_9
  frame_out
  pointwise [k0_pay14, k0_pay13, k0_pay12, k0_pay11, k0_pay10, k0_pay9, k0_pay8, rCode, rScale, rowMax, expoR]
set_option maxHeartbeats 1600000 in
theorem o10 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 4096) (h : Fin 2) (d : Fin 128) : out0_10 x0 x1 x2 x3 x4 x5 (ix4 b t h d) = x2 (ix4 b t h d) * x3 (ix3 b t h) := by
  unfold_out out0_10
  frame_out
  pointwise [k0_pay16]
set_option maxHeartbeats 1600000 in
theorem o11 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 4096) (h : Fin 2) (d : Fin 128) : out0_11 x0 x1 x2 x3 x4 x5 (ix4 b t h d) = x4 (ix4 b t h d) * x5 (ix3 b t h) := by
  unfold_out out0_11
  frame_out
  pointwise [k0_pay1]
set_option maxHeartbeats 1600000 in
theorem o12 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_12 x0 x1 x2 x3 x4 x5 (ix4 b t h d) = rCode (fun e => x0 (ix4 b t h e)) d * rScale (fun e => x0 (ix4 b t h e)) := by
  unfold_out out0_12
  frame_out
  pointwise [k0_pay2, k0_pay7, k0_pay6, k0_pay5, k0_pay4, rCode, rScale, rowMax, expoR]
set_option maxHeartbeats 1600000 in
theorem o13 (x0 x1 : Vec Ideal S32x16x2x128 .bf16) (x2 : Vec Ideal S32x4096x2x128 .fp8e4m3) (x3 : Vec Ideal S32x4096x2 .f32) (x4 : Vec Ideal S32x4096x2x128 .fp8e4m3) (x5 : Vec Ideal S32x4096x2 .f32)
    (b : Fin 32) (t : Fin 16) (h : Fin 2) (d : Fin 128) : out0_13 x0 x1 x2 x3 x4 x5 (ix4 b t h d) = rCode (fun e => x1 (ix4 b t h e)) d * rScale (fun e => x1 (ix4 b t h e)) := by
  unfold_out out0_13
  frame_out
  pointwise [k0_pay3, k0_pay15, k0_pay14, k0_pay13, k0_pay12, k0_pay11, k0_pay10, k0_pay9, k0_pay8, rCode, rScale, rowMax, expoR]
set_option maxHeartbeats 1600000 in
theorem ib0 (t : Fin cfg0.N) : iblk m c 0 t = m ((c : Thread nD τ).loc main_arg1) := by
  blk_ext! [iblk, V, idx t]
set_option maxHeartbeats 1600000 in
theorem ib1 (t : Fin cfg0.N) : iblk m c 1 t = m ((c : Thread nD τ).loc main_arg2) := by
  blk_ext! [iblk, V, idx t]
set_option maxHeartbeats 1600000 in
theorem ib2 (t : Fin cfg0.N) : iblk m c 2 t = m ((c : Thread nD τ).loc main_arg3) := by
  blk_ext! [iblk, V, idx t]
set_option maxHeartbeats 1600000 in
theorem ib3 (t : Fin cfg0.N) : iblk m c 3 t = m ((c : Thread nD τ).loc main_arg4) := by
  blk_ext! [iblk, V, idx t]
set_option maxHeartbeats 1600000 in
theorem ib4 (t : Fin cfg0.N) : iblk m c 4 t = m ((c : Thread nD τ).loc main_arg5) := by
  blk_ext! [iblk, V, idx t]
set_option maxHeartbeats 1600000 in
theorem ib5 (t : Fin cfg0.N) : iblk m c 5 t = m ((c : Thread nD τ).loc main_arg6) := by
  blk_ext! [iblk, V, idx t]
set_option maxHeartbeats 1600000 in
theorem w6 (h : ∀ t, dat.after 6 t = out0_6 (iblk m c 0 t) (iblk m c 1 t) (iblk m c 2 t) (iblk m c 3 t) (iblk m c 4 t) (iblk m c 5 t)) : dat.arrAt 6 cfg0.N = codeA (m ((c : Thread nD τ).loc main_arg1)) := by
  refine dat.arrAt_eq_of_after_last 6 t0_0 (by decide +kernel) _ fun j => ?_
  blk_simp
  rw [h, ib0, ib1, ib2, ib3, ib4, ib5]
  refine (congrArg (out0_6 _ _ _ _ _ _) (eq_ix4 j)).trans ?_
  exact o6 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)
set_option maxHeartbeats 1600000 in
theorem w7 (h : ∀ t, dat.after 7 t = out0_7 (iblk m c 0 t) (iblk m c 1 t) (iblk m c 2 t) (iblk m c 3 t) (iblk m c 4 t) (iblk m c 5 t)) : dat.arrAt 7 cfg0.N = scaleA (m ((c : Thread nD τ).loc main_arg1)) := by
  refine dat.arrAt_eq_of_after_last 7 t0_0 (by decide +kernel) _ fun j => ?_
  blk_simp
  rw [h, ib0, ib1, ib2, ib3, ib4, ib5]
  refine (congrArg (out0_7 _ _ _ _ _ _) (eq_ix3 j)).trans ?_
  exact o7 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) 0
set_option maxHeartbeats 1600000 in
theorem w8 (h : ∀ t, dat.after 8 t = out0_8 (iblk m c 0 t) (iblk m c 1 t) (iblk m c 2 t) (iblk m c 3 t) (iblk m c 4 t) (iblk m c 5 t)) : dat.arrAt 8 cfg0.N = codeA (m ((c : Thread nD τ).loc main_arg2)) := by
  refine dat.arrAt_eq_of_after_last 8 t0_0 (by decide +kernel) _ fun j => ?_
  blk_simp
  rw [h, ib0, ib1, ib2, ib3, ib4, ib5]
  refine (congrArg (out0_8 _ _ _ _ _ _) (eq_ix4 j)).trans ?_
  exact o8 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)
set_option maxHeartbeats 1600000 in
theorem w9 (h : ∀ t, dat.after 9 t = out0_9 (iblk m c 0 t) (iblk m c 1 t) (iblk m c 2 t) (iblk m c 3 t) (iblk m c 4 t) (iblk m c 5 t)) : dat.arrAt 9 cfg0.N = scaleA (m ((c : Thread nD τ).loc main_arg2)) := by
  refine dat.arrAt_eq_of_after_last 9 t0_0 (by decide +kernel) _ fun j => ?_
  blk_simp
  rw [h, ib0, ib1, ib2, ib3, ib4, ib5]
  refine (congrArg (out0_9 _ _ _ _ _ _) (eq_ix3 j)).trans ?_
  exact o9 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) 0
set_option maxHeartbeats 1600000 in
theorem w10 (h : ∀ t, dat.after 10 t = out0_10 (iblk m c 0 t) (iblk m c 1 t) (iblk m c 2 t) (iblk m c 3 t) (iblk m c 4 t) (iblk m c 5 t)) : dat.arrAt 10 cfg0.N = cacheA (m ((c : Thread nD τ).loc main_arg3)) (m ((c : Thread nD τ).loc main_arg4)) := by
  refine dat.arrAt_eq_of_after_last 10 t0_0 (by decide +kernel) _ fun j => ?_
  blk_simp
  rw [h, ib0, ib1, ib2, ib3, ib4, ib5]
  refine (congrArg (out0_10 _ _ _ _ _ _) (eq_ix4 j)).trans ?_
  exact o10 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)
set_option maxHeartbeats 1600000 in
theorem w11 (h : ∀ t, dat.after 11 t = out0_11 (iblk m c 0 t) (iblk m c 1 t) (iblk m c 2 t) (iblk m c 3 t) (iblk m c 4 t) (iblk m c 5 t)) : dat.arrAt 11 cfg0.N = cacheA (m ((c : Thread nD τ).loc main_arg5)) (m ((c : Thread nD τ).loc main_arg6)) := by
  refine dat.arrAt_eq_of_after_last 11 t0_0 (by decide +kernel) _ fun j => ?_
  blk_simp
  rw [h, ib0, ib1, ib2, ib3, ib4, ib5]
  refine (congrArg (out0_11 _ _ _ _ _ _) (eq_ix4 j)).trans ?_
  exact o11 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)
set_option maxHeartbeats 1600000 in
theorem w12 (h : ∀ t, dat.after 12 t = out0_12 (iblk m c 0 t) (iblk m c 1 t) (iblk m c 2 t) (iblk m c 3 t) (iblk m c 4 t) (iblk m c 5 t)) : dat.arrAt 12 cfg0.N = deqA (m ((c : Thread nD τ).loc main_arg1)) := by
  refine dat.arrAt_eq_of_after_last 12 t0_0 (by decide +kernel) _ fun j => ?_
  blk_simp
  rw [h, ib0, ib1, ib2, ib3, ib4, ib5]
  refine (congrArg (out0_12 _ _ _ _ _ _) (eq_ix4 j)).trans ?_
  exact o12 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)
set_option maxHeartbeats 1600000 in
theorem w13 (h : ∀ t, dat.after 13 t = out0_13 (iblk m c 0 t) (iblk m c 1 t) (iblk m c 2 t) (iblk m c 3 t) (iblk m c 4 t) (iblk m c 5 t)) : dat.arrAt 13 cfg0.N = deqA (m ((c : Thread nD τ).loc main_arg2)) := by
  refine dat.arrAt_eq_of_after_last 13 t0_0 (by decide +kernel) _ fun j => ?_
  blk_simp
  rw [h, ib0, ib1, ib2, ib3, ib4, ib5]
  refine (congrArg (out0_13 _ _ _ _ _ _) (eq_ix4 j)).trans ?_
  exact o13 (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (j 0) (j 1) (j 2) (j 3)

/-- Output 1 of the reference at one position, from the nine arguments. -/
def outF (Q : FVec Ideal S32x16x32x128 .bf16) (kn vn : FVec Ideal S32x16x2x128 .bf16) (K4 V5 : FVec Ideal S32x4096x2x128 .bf16) (L : Vec Ideal S32 .i32) (M : Vec Ideal S16x16 .i1) (b : Fin 32) (s : Fin 16) (k : Fin 32) (d : Fin 128) : EReal :=
  attn (scR Q K4 L b ⟨k.val / 16, by omega⟩ s ⟨k.val % 16, by omega⟩) (snR Q kn M b ⟨k.val / 16, by omega⟩ s ⟨k.val % 16, by omega⟩) (fun t => V5 (ix4 b t ⟨k.val / 16, by omega⟩ d)) (fun t => vn (ix4 b t ⟨k.val / 16, by omega⟩ d))

/-- Output 1 of the reference. -/
def outA (Q : FVec Ideal S32x16x32x128 .bf16) (kn vn : FVec Ideal S32x16x2x128 .bf16) (K4 V5 : FVec Ideal S32x4096x2x128 .bf16) (L : Vec Ideal S32 .i32) (M : Vec Ideal S16x16 .i1) : FVec Ideal S32x16x32x128 .bf16 :=
  fun j => outF Q kn vn K4 V5 L M (j 0) (j 1) (j 2) (j 3)

theorem arr_inj : Function.Injective (Pipeline.arrRef spec0) := by decide +kernel

theorem w45 (A : (w : Fin 14) → Buf (Elt Ideal) ((spec0 w).arr.view.loc (c.tc : Thread nD τ))) (K4 V5 : FVec Ideal S32x4096x2x128 .bf16) (kn vn : FVec Ideal S32x16x2x128 .bf16) (h4 : A 10 = K4) (h5 : A 11 = V5) (h6 : A 12 = kn) (h7 : A 13 = vn) :
    StableHlo.after (List.flatten [hostOps1, hostOps1_1, hostOps1_2, hostOps1_3, hostOps1_4]) (Pipeline.withArrays spec0 c (V0 m c) A) (Proc.devRef .tc main_v45)
      = outA (m ((c : Thread nD τ).loc main_arg0)) kn vn K4 V5 (m ((c : Thread nD τ).loc main_arg7)) (m ((c : Thread nD τ).loc main_arg8)) := by
  refine funext fun j => ?_
  refine (congrArg (StableHlo.after (List.flatten [hostOps1, hostOps1_1, hostOps1_2, hostOps1_3, hostOps1_4]) (Pipeline.withArrays spec0 c (V0 m c) A) (Proc.devRef .tc main_v45)) (eq_ix4 j)).trans ?_
  exact r_final (Pipeline.withArrays spec0 c (V0 m c) A)
    _ (Pipeline.withArrays_of_ne _ c (V0 m c) _ main_arg0 (by exact (by decide : ∀ w, Pipeline.arrRef spec0 w ≠ main_arg0)))
    _ (Pipeline.withArrays_of_ne _ c (V0 m c) _ main_arg7 (by exact (by decide : ∀ w, Pipeline.arrRef spec0 w ≠ main_arg7)))
    _ (Pipeline.withArrays_of_ne _ c (V0 m c) _ main_arg8 (by exact (by decide : ∀ w, Pipeline.arrRef spec0 w ≠ main_arg8)))
    K4 ((Pipeline.withArrays_arr spec0 arr_inj c (V0 m c) A 10).trans h4)
    V5 ((Pipeline.withArrays_arr spec0 arr_inj c (V0 m c) A 11).trans h5)
    kn ((Pipeline.withArrays_arr spec0 arr_inj c (V0 m c) A 12).trans h6)
    vn ((Pipeline.withArrays_arr spec0 arr_inj c (V0 m c) A 13).trans h7) (j 0) (j 1) (j 2) (j 3)

end Cert.ReferenceIdeal.Hand
-- ==== Proof.ReferenceValues.lean ====
/- All five results of the reference program as functions of its arguments. -/
module

public import proofs.«01_k».proof.Proof.Gen.ReferenceIdeal.Frame
public import proofs.«01_k».proof.Proof.Quantiser
public import proofs.«01_k».proof.Proof.ReferenceOps
public import proofs.«01_k».proof.Proof.ReferenceArrays
public import proofs.«01_k».proof.Proof.ReferenceOps
public import proofs.«01_k».proof.Proof.ReferenceArrays
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.ReferenceIdeal.Hand
open Cert.ReferenceIdeal Cert.ReferenceIdeal.Gen Cert.Hand
variable (m : (ℓ : Loc nD τ sig) → Buf (Elt Ideal) ℓ) (c : Dev nD) (dat : Dat τ (Elt Ideal) Unit ℕ (UR sig nD τ) ℕ cfg0 c)

attribute [local irreducible] out0_6 out0_7 out0_8 out0_9 out0_10 out0_11 out0_12 out0_13
variable (ρ : Dev nD → PrngReg)
set_option maxHeartbeats 1600000 in
/-- Every run of the reference ends with its five results at these functions of the arguments. -/
theorem ref_val : θ_run defs (onTc (τ := τ) (main (F := Ideal))) ⟨m, fun _ => 0, ρ⟩ (fun r => ∀ c : Dev nD,
    r.2.mem ((c : Thread nD τ).loc main_v45) = outA (m ((c : Thread nD τ).loc main_arg0)) (deqA (m ((c : Thread nD τ).loc main_arg1))) (deqA (m ((c : Thread nD τ).loc main_arg2))) (cacheA (m ((c : Thread nD τ).loc main_arg3)) (m ((c : Thread nD τ).loc main_arg4))) (cacheA (m ((c : Thread nD τ).loc main_arg5)) (m ((c : Thread nD τ).loc main_arg6))) (m ((c : Thread nD τ).loc main_arg7)) (m ((c : Thread nD τ).loc main_arg8))
      ∧ r.2.mem ((c : Thread nD τ).loc main_v0_0) = codeA (m ((c : Thread nD τ).loc main_arg1))
      ∧ r.2.mem ((c : Thread nD τ).loc main_v0_1) = scaleA (m ((c : Thread nD τ).loc main_arg1))
      ∧ r.2.mem ((c : Thread nD τ).loc main_v0_2) = codeA (m ((c : Thread nD τ).loc main_arg2))
      ∧ r.2.mem ((c : Thread nD τ).loc main_v0_3) = scaleA (m ((c : Thread nD τ).loc main_arg2))) := by
  refine (θ_run defs _ _).mono (fun r h c => ?_) (run_main_quiescent m ρ)
  refine ⟨?_, ?_, ?_, ?_, ?_⟩
  · have e := (h.1 c).2 main_v45 (Pipeline.mem_restRefs_of main_v45 (by decide) (by decide))
    refine e.trans (w45 m c _ _ _ _ _ ?_ ?_ ?_ ?_)
    · refine w10 m c _ ?_
      intro t
      rfl
    · refine w11 m c _ ?_
      intro t
      rfl
    · refine w12 m c _ ?_
      intro t
      rfl
    · refine w13 m c _ ?_
      intro t
      rfl
  · refine ((h.1 c).1 6).trans (w6 m c _ ?_)
    intro t
    rfl
  · refine ((h.1 c).1 7).trans (w7 m c _ ?_)
    intro t
    rfl
  · refine ((h.1 c).1 8).trans (w8 m c _ ?_)
    intro t
    rfl
  · refine ((h.1 c).1 9).trans (w9 m c _ ?_)
    intro t
    rfl
end Cert.ReferenceIdeal.Hand
-- ==== Proof.Equation.lean ====
/- The kernel results and the reference results are the same functions of the arguments, on finite tokens. -/
module

public import proofs.«01_k».proof.Proof.Run
public import proofs.«01_k».proof.Proof.BlockValues
public import proofs.«01_k».proof.Proof.BlockWords
public import proofs.«01_k».proof.Proof.TokenBlocks
public import proofs.«01_k».proof.Proof.CacheBlocks
public import proofs.«01_k».proof.Proof.OutputArrays
public import proofs.«01_k».proof.Proof.Attention
public import proofs.«01_k».proof.Proof.ReferenceArrays
public import Idealize.ShloMosaic.Lib.Pointwise
public import Idealize.ShloMosaic.Lib.StableHlo.ReadAt
public import Idealize.ShloMosaic.Lib.Pipeline.ValueKit

@[expose] public section

set_option maxRecDepth 16384

noncomputable section

open Idealize.ShloMosaic Idealize.ShloMosaic.TcCoe Idealize.SL Idealize.SL.Sem
open Idealize.ShloMosaic.Pipeline (Dat Cfg Window BodyObligation cellOf)
namespace Cert.Hand
open Cert.Kernel.Hand Cert.ReferenceIdeal.Hand

theorem bit_pos (x : BitVec 1) : 0 < FloatOps.uitofp (F := Ideal) .f32 x ↔ x = 1#1 := by
  have h : x = 0#1 ∨ x = 1#1 := by
    have : ∀ y : BitVec 1, y = 0#1 ∨ y = 1#1 := by decide
    exact this x
  have e : FloatOps.uitofp (F := Ideal) .f32 x = ((x.toNat : ℝ) : EReal) := rfl
  rcases h with rfl | rfl
  · rw [e]; simp
  · rw [e]; simp

theorem sup_fin (s : ℕ → EReal) (f : Fin 4096 → EReal) (h : ∀ t : Fin 4096, s t.val = f t) : (Finset.range 4096).sup s = Finset.univ.sup f := by
  have e := sup_add (s := s) 0 4096
  rw [Nat.zero_add] at e
  rw [e, Finset.range_zero, Finset.sup_empty, bot_sup_eq]
  refine Finset.sup_congr rfl fun t _ => ?_
  rw [Nat.zero_add, h]

theorem kSn_eq (a : Args) (b : Fin 32) (h : Fin 2) (n : Fin 256) (t : Fin 4096) : kSn a b h n t.val = kS a b h n t := dif_pos t.isLt
theorem kVn_eq (a : Args) (b : Fin 32) (h : Fin 2) (d : Fin 128) (t : Fin 4096) : kVn a b h d t.val = a.vc (ix4 b t h d) * a.vs (ix3 b t h) := dif_pos t.isLt

/-- The kernel's attention as the reference writes it, over the kernel's scores. -/
theorem kOut_attn (a : Args) (b : Fin 32) (s : Fin 16) (k : Fin 32) (d : Fin 128) :
    kOut a b s k d = attn (kS a b ⟨k.val / 16, by omega⟩ ⟨s.val * 16 + k.val % 16, by omega⟩) (nS a b ⟨k.val / 16, by omega⟩ ⟨s.val * 16 + k.val % 16, by omega⟩)
      (fun t => a.vc (ix4 b t ⟨k.val / 16, by omega⟩ d) * a.vs (ix3 b t ⟨k.val / 16, by omega⟩)) (fun t => nV a b ⟨k.val / 16, by omega⟩ d t) := by
  unfold kOut attn nM
  dsimp only
  rw [sup_fin _ _ (kSn_eq a b _ _), fold_sup, fold_sup, max_comm, Finset.sum_range, Finset.sum_range]
  simp only [kSn_eq, kVn_eq]

theorem kS_eq (a : Args) (b : Fin 32) (s : Fin 16) (k : Fin 32) (t : Fin 4096) :
    kS a b ⟨k.val / 16, by omega⟩ ⟨s.val * 16 + k.val % 16, by omega⟩ t = scR a.x (cacheA a.kc a.ks) a.L b ⟨k.val / 16, by omega⟩ s ⟨k.val % 16, by omega⟩ t := by
  have e1 : (⟨(s.val * 16 + k.val % 16) / 16, by omega⟩ : Fin 16) = s := Fin.ext (by show (s.val * 16 + k.val % 16) / 16 = s.val; omega)
  have e2 : (⟨k.val / 16 * 16 + (s.val * 16 + k.val % 16) % 16, by omega⟩ : Fin 32) = ⟨k.val / 16 * 16 + k.val % 16, by omega⟩ := Fin.ext (by show k.val / 16 * 16 + (s.val * 16 + k.val % 16) % 16 = k.val / 16 * 16 + k.val % 16; omega)
  unfold kS scR
  simp only [e1, e2]
  refine congrArg (fun z => Scalar.select _ (z * _) _) (Finset.sum_congr rfl fun x _ => ?_)
  exact mul_comm _ _

theorem nS_eq (a : Args) (hk : ∀ b t h, ∀ x, FloatOps.absf (F := Ideal) (φ := .bf16) (a.kn (ix4 b t h x)) ≤ Ideal.ofBits .bf16 0x7F7F#16) (b : Fin 32) (s : Fin 16) (k : Fin 32) (t : Fin 16) :
    nS a b ⟨k.val / 16, by omega⟩ ⟨s.val * 16 + k.val % 16, by omega⟩ t = snR a.x (deqA a.kn) a.M b ⟨k.val / 16, by omega⟩ s ⟨k.val % 16, by omega⟩ t := by
  have e1 : (⟨(s.val * 16 + k.val % 16) / 16, by omega⟩ : Fin 16) = s := Fin.ext (by show (s.val * 16 + k.val % 16) / 16 = s.val; omega)
  have e2 : (⟨k.val / 16 * 16 + (s.val * 16 + k.val % 16) % 16, by omega⟩ : Fin 32) = ⟨k.val / 16 * 16 + k.val % 16, by omega⟩ := Fin.ext (by show k.val / 16 * 16 + (s.val * 16 + k.val % 16) % 16 = k.val / 16 * 16 + k.val % 16; omega)
  have hr := row_eq (fun e => a.kn (ix4 b t ⟨k.val / 16, by omega⟩ e)) (hk b t ⟨k.val / 16, by omega⟩)
  unfold nS snR
  simp only [e1, e2, bit_pos, hr.1, hr.2]
  refine congrArg (fun z => Scalar.select _ (z * _) _) (Finset.sum_congr rfl fun x _ => ?_)
  exact mul_comm _ _

theorem kOut_eq (a : Args) (hk : ∀ b t h, ∀ x, FloatOps.absf (F := Ideal) (φ := .bf16) (a.kn (ix4 b t h x)) ≤ Ideal.ofBits .bf16 0x7F7F#16) (hv : ∀ b t h, ∀ x, FloatOps.absf (F := Ideal) (φ := .bf16) (a.vn (ix4 b t h x)) ≤ Ideal.ofBits .bf16 0x7F7F#16)
    (b : Fin 32) (s : Fin 16) (k : Fin 32) (d : Fin 128) :
    kOut a b s k d = outF a.x (deqA a.kn) (deqA a.vn) (cacheA a.kc a.ks) (cacheA a.vc a.vs) a.L a.M b s k d := by
  rw [kOut_attn]
  unfold outF
  refine congr (congr (congr (congrArg attn (funext fun t => kS_eq a b s k t)) (funext fun t => nS_eq a hk b s k t)) rfl) (funext fun t => ?_)
  have hr := row_eq (fun e => a.vn (ix4 b t ⟨k.val / 16, by omega⟩ e)) (hv b t ⟨k.val / 16, by omega⟩)
  unfold nV
  rw [hr.1, hr.2]
  rfl

theorem code_eq (K : FVec Ideal Cert.Kernel.S32x16x2x128 .bf16) (hk : ∀ b t h, ∀ x, FloatOps.absf (F := Ideal) (φ := .bf16) (K (ix4 b t h x)) ≤ Ideal.ofBits .bf16 0x7F7F#16) (j : Cert.Kernel.S32x16x2x128.Idx) :
    kCode (fun e => K (ix4 (j 0) (j 1) (j 2) e)) (j 3) = codeA K j := (row_eq _ (hk (j 0) (j 1) (j 2))).2 (j 3)
theorem scale_eq (K : FVec Ideal Cert.Kernel.S32x16x2x128 .bf16) (hk : ∀ b t h, ∀ x, FloatOps.absf (F := Ideal) (φ := .bf16) (K (ix4 b t h x)) ≤ Ideal.ofBits .bf16 0x7F7F#16) (j : Cert.Kernel.S32x16x2.Idx) :
    kScale (fun e => K (ix4 (j 0) (j 1) (j 2) e)) = scaleA K j := (row_eq _ (hk (j 0) (j 1) (j 2))).1
end Cert.Hand
-- ==== Proof.LengthTable.lean ====
/- The condition of the pipeline on the table of lengths holds of every table. -/
module

public import proofs.«01_k».proof.Proof.Entry
public import Idealize.ShloMosaic.Lib.Affine
public import Mathlib.Tactic.FinCases

@[expose] public section

set_option maxRecDepth 16384

noncomputable section

namespace Cert

open Idealize.ShloMosaic

/-- A block number clamped to the row's length stays below the number of blocks, whatever the length word is. -/
theorem clamp_le (j : ℕ) (hj : j < 8) (w : BitVec 32) :
    (Scalar.minsi (BitVec.ofNat 32 j) (Scalar.shrui w 9#32)).toNat ≤ 7 := by
  have hs : (Scalar.shrui w 9#32) = w >>> 9 := by
    simp [Scalar.shrui, IntOp.shrui]
  rw [hs, Scalar.minsi, IntOp.minsi]
  have h1 : (w >>> 9).toNat < 2 ^ 23 := by
    rw [BitVec.toNat_ushiftRight, Nat.shiftRight_eq_div_pow]
    have := w.isLt
    omega
  have h2 : (BitVec.ofNat 32 j).toNat = j := by
    rw [BitVec.toNat_ofNat]; omega
  split
  · omega
  · rename_i h
    rw [BitVec.slt_iff_toInt_lt, BitVec.toInt_eq_toNat_cond, BitVec.toInt_eq_toNat_cond, h2] at h
    have e1 : 2 * j < 2 ^ 32 := by omega
    have e2 : 2 * (w >>> 9).toNat < 2 ^ 32 := by omega
    rw [if_pos e1, if_pos e2] at h
    omega

end Cert

namespace Cert.Kernel

open Idealize.ShloMosaic Idealize.SL.Sem Cert.Kernel.Gen

/-- The pipeline's condition on the prefetched lengths holds of every table. -/
theorem ok_all {F : FTy → Type} [FloatOps F] (pf : pre0.Contents (Elt F)) : ok0 (F := F) pf := by
  have key : ∀ i : grid0.Coords, ∀ w : BitVec 32,
      (i 0).val < 32 ∧ (Scalar.minsi (BitVec.ofNat 32 (i 1).val) (Scalar.shrui w 9#32)).toNat ≤ 7 := fun i w =>
    ⟨(i 0).isLt, Cert.clamp_le _ (i 1).isLt w⟩
  have b0 : ∀ i : grid0.Coords, (BitVec.ofNat 32 (i 0).val).toNat = (i 0).val := fun i => by
    have : (i 0).val < 32 := (i 0).isLt
    rw [BitVec.toNat_ofNat]; omega
  have kv : ∀ i : grid0.Coords, ∃ h : (∀ a, (cc0_transform_3 k0_off1_inb numel1_S1 pf i a + 1) * S1x2x512x128.size a ≤ S32x2x4096x128.size a), EltTy.bits .fp8e4m3 = 32 ∨ (Rect.block (s := S32x2x4096x128) S1x2x512x128.size (cc0_transform_3 k0_off1_inb numel1_S1 pf i) h).WholeWords (EltTy.packing .fp8e4m3) := by
    intro i
    have h : ∀ a, (cc0_transform_3 k0_off1_inb numel1_S1 pf i a + 1) * S1x2x512x128.size a ≤ S32x2x4096x128.size a := by
      intro a
      obtain ⟨k1, k2⟩ := key i (Scalar.subi (pf.at 0 (Rect.unit (s := S32) (k0_off1 i) S1.size (k0_off1_inb i)) numel1_S1) 1#32)
      fin_cases a
      · show ((BitVec.ofNat 32 (i 0).val).toNat + 1) * 1 ≤ 32
        rw [b0]; omega
      · show ((0#32).toNat + 1) * 2 ≤ 2
        decide
      · show ((Scalar.minsi (BitVec.ofNat 32 (i 1).val) (Scalar.shrui _ 9#32)).toNat + 1) * 512 ≤ 4096
        exact le_trans (Nat.mul_le_mul_right 512 (Nat.succ_le_succ k2)) (by decide)
      · show ((0#32).toNat + 1) * 128 ≤ 128
        decide
    exact ⟨h, .inr (Affine.block_words_dvd (of_decide_eq_true rfl) (by decide))⟩
  have sc : ∀ i : grid0.Coords, ∃ h : (∀ a, (cc0_transform_4 k0_off1_inb numel1_S1 pf i a + 1) * S1x2x512.size a ≤ S32x2x4096.size a), EltTy.bits .f32 = 32 ∨ (Rect.block (s := S32x2x4096) S1x2x512.size (cc0_transform_4 k0_off1_inb numel1_S1 pf i) h).WholeWords (EltTy.packing .f32) := by
    intro i
    have h : ∀ a, (cc0_transform_4 k0_off1_inb numel1_S1 pf i a + 1) * S1x2x512.size a ≤ S32x2x4096.size a := by
      intro a
      obtain ⟨k1, k2⟩ := key i (Scalar.subi (pf.at 0 (Rect.unit (s := S32) (k0_off1 i) S1.size (k0_off1_inb i)) numel1_S1) 1#32)
      fin_cases a
      · show ((BitVec.ofNat 32 (i 0).val).toNat + 1) * 1 ≤ 32
        rw [b0]; omega
      · show ((0#32).toNat + 1) * 2 ≤ 2
        decide
      · show ((Scalar.minsi (BitVec.ofNat 32 (i 1).val) (Scalar.shrui _ 9#32)).toNat + 1) * 512 ≤ 4096
        exact le_trans (Nat.mul_le_mul_right 512 (Nat.succ_le_succ k2)) (by decide)
    exact ⟨h, .inl rfl⟩
  exact ⟨kv, sc, kv, sc⟩

end Cert.Kernel

end
-- ==== Proof.Precondition.lean ====
/- What the precondition says of the rows of new tokens. -/
module

public import proofs.«01_k».proof.Proof.Equation
public import proofs.«01_k».proof.Pre_finite_tokens
public import proofs.«01_k».proof.Proof.Gen.Pre_finite_tokens

@[expose] public section

set_option maxRecDepth 16384

noncomputable section
open Idealize.ShloMosaic Idealize.ShloMosaic.TcCoe Idealize.SL Idealize.SL.Sem
namespace Cert.Hand

/-- A comparison `|x| ≤ y` that holds everywhere, read at one index. -/
theorem le_of_cmp (x y : Ideal .bf16) (h : FloatOps.cmpf (F := Ideal) (φ := .bf16) .ole x y = 1#1) : (x : EReal) ≤ y := by
  have h' : BitVec.ofBool (decide ((x : EReal) ≤ y)) = 1#1 := h
  by_contra hn
  rw [decide_eq_false hn] at h'
  exact absurd h' (by decide)

/-- What the precondition says of one token row. -/
theorem pre_le (K : FVec Ideal Cert.Pre_finite_tokens.S32x16x2x128 .bf16)
    (h : cmpf .ole (Host.absf K) (broadcastInDim Cert.Pre_finite_tokens.S32x16x2x128 ![] Cert.Pre_finite_tokens.Facts.bcast_S_S32x16x2x128 (constant (F := Ideal) Cert.Pre_finite_tokens.S_ .bf16 0x7F7F#16)) = fun _ => 1#1)
    (b : Fin 32) (t : Fin 16) (h' : Fin 2) (x : Fin 128) : FloatOps.absf (F := Ideal) (φ := .bf16) (K (ix4 b t h' x)) ≤ Ideal.ofBits .bf16 0x7F7F#16 :=
  le_of_cmp _ _ (congrFun h (ix4 b t h' x))

theorem pre_fst (a0 : FVec Ideal Cert.Pre_finite_tokens.S32x16x32x128 .bf16) (a1 a2 : FVec Ideal Cert.Pre_finite_tokens.S32x16x2x128 .bf16) (a3 a4 a5 a6 a7 a8)
    (h : (Cert.Pre_finite_tokens.fn (F := Ideal) a0 a1 a2 a3 a4 a5 a6 a7 a8).1 = fun _ => 1#1) (b : Fin 32) (t : Fin 16) (h' : Fin 2) (x : Fin 128) :
    FloatOps.absf (F := Ideal) (φ := .bf16) (a1 (ix4 b t h' x)) ≤ Ideal.ofBits .bf16 0x7F7F#16 := pre_le a1 h b t h' x
theorem pre_snd (a0 : FVec Ideal Cert.Pre_finite_tokens.S32x16x32x128 .bf16) (a1 a2 : FVec Ideal Cert.Pre_finite_tokens.S32x16x2x128 .bf16) (a3 a4 a5 a6 a7 a8)
    (h : (Cert.Pre_finite_tokens.fn (F := Ideal) a0 a1 a2 a3 a4 a5 a6 a7 a8).2 = fun _ => 1#1) (b : Fin 32) (t : Fin 16) (h' : Fin 2) (x : Fin 128) :
    FloatOps.absf (F := Ideal) (φ := .bf16) (a2 (ix4 b t h' x)) ≤ Ideal.ofBits .bf16 0x7F7F#16 := pre_le a2 h b t h' x

end Cert.Hand
end
-- ==== Proof.Idealization.lean ====
/- A run of the kernel program is a run of its idealization. -/
module

public import proofs.«01_k».proof.KernelIdeal
public import proofs.«01_k».proof.Kernel
public import Idealize.ShloMosaic.Lib.Tactic
public import Idealize.ShloMosaic.Adequacy
public import Idealize.ShloMosaic.Init

@[expose] public section

set_option maxRecDepth 16384

noncomputable section
open Idealize.ShloMosaic Idealize.ShloMosaic.TcCoe Idealize.SL Idealize.SL.Sem
variable {F : FTy → Type} [FloatOps F]

set_option maxHeartbeats 0 in
theorem Cert.Hand.defs₀_eq (h : Cert.Kernel.Facts) (h' : Cert.KernelIdeal.Facts) : @Cert.KernelIdeal.defs₀ F _ h' = @Cert.Kernel.defs₀ F _ h := by
  unfold Cert.KernelIdeal.defs₀ Cert.Kernel.defs₀
  refine congrArg Defs.onTc (funext fun l => funext fun a => ?_)
  match l, a with
  | ⟨0, _⟩, (t, s) => exact rfl
  | ⟨n + 1, h⟩, _ => exact absurd h (Nat.not_lt.2 (Nat.le_add_left _ _))

set_option maxHeartbeats 0 in
theorem Cert.Hand.defs_eq (h : Cert.Kernel.Facts) (h' : Cert.KernelIdeal.Facts) : @Cert.KernelIdeal.defs F _ h' = @Cert.Kernel.defs F _ h :=
  congrArg (Idealize.ShloMosaic.Pipeline.defs (@Cert.Kernel.pcfgs F _ h)) (Cert.Hand.defs₀_eq h h')

set_option maxHeartbeats 0 in
/-- The host programs are the same. -/
theorem Cert.Hand.main_eq (h : Cert.Kernel.Facts) (h' : Cert.KernelIdeal.Facts) : @Cert.KernelIdeal.main F _ h' = @Cert.Kernel.main F _ h := rfl

/-- What a run of the kernel program has, a run of its idealization has: the two are printed from one module. -/
theorem Cert.Hand.transfer (h : Cert.Kernel.Facts) (h' : Cert.KernelIdeal.Facts) (m : (ℓ : Loc Cert.Kernel.nD Cert.Kernel.τ Cert.Kernel.sig) → Buf (Elt F) ℓ) (g : Dev Cert.Kernel.nD → PrngReg)
    (Q : PUnit × MemSt Cert.Kernel.nD Cert.Kernel.τ Cert.Kernel.sig (Elt F) → Prop)
    (hr : θ_run (@Cert.Kernel.defs F _ h) (onTc (τ := Cert.Kernel.τ) (@Cert.Kernel.main F _ h)) ⟨m, fun _ => 0, g⟩ Q) :
    θ_run (@Cert.KernelIdeal.defs F _ h') (onTc (τ := Cert.KernelIdeal.τ) (@Cert.KernelIdeal.main F _ h')) ⟨m, fun _ => 0, g⟩ Q :=
  Eq.mpr (congrArg₂ (fun d k => θ_run d (onTc (τ := Cert.Kernel.τ) k) ⟨m, fun _ => 0, g⟩ Q) (Cert.Hand.defs_eq (F := F) h h') (Cert.Hand.main_eq h h')) hr

end
-- ==== Proof.lean ====
/- The certificate: the kernel program against the reference, from the modules under Proof/. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.Pre_finite_tokens
public import proofs.«01_k».proof.Proof.Gen.ReferenceIdeal.Frame
public import proofs.«01_k».proof.Proof.KernelValues
public import proofs.«01_k».proof.Proof.ReferenceValues
public import proofs.«01_k».proof.Proof.Equation
public import proofs.«01_k».proof.Proof.LengthTable
public import proofs.«01_k».proof.Proof.Precondition
public import proofs.«01_k».proof.Proof.Idealization
public import Idealize.ShloMosaic.Adequacy
public import Idealize.ShloMosaic.Init

@[expose] public section

set_option maxRecDepth 16384

noncomputable section

namespace Cert.Hand
open Idealize.ShloMosaic Idealize.ShloMosaic.TcCoe Idealize.SL Idealize.SL.Sem
open Cert.Kernel.Hand Cert.ReferenceIdeal.Hand

/-- The attention of equal arguments. -/
theorem out_congr {Q Q' : FVec Ideal Cert.Kernel.S32x16x32x128 .bf16} {k k' v v' : FVec Ideal Cert.Kernel.S32x16x2x128 .bf16} {K K' V V' : FVec Ideal Cert.Kernel.S32x4096x2x128 .fp8e4m3} {S S' T T' : FVec Ideal Cert.Kernel.S32x4096x2 .f32}
    {L L' : IVec Cert.Kernel.S32 32} {M M' : IVec Cert.Kernel.S16x16 1} (e0 : Q' = Q) (e1 : k' = k) (e2 : v' = v) (e3 : K' = K) (e4 : S' = S) (e5 : V' = V) (e6 : T' = T) (e7 : L' = L) (e8 : M' = M) :
    outA Q' (deqA k') (deqA v') (cacheA K' S') (cacheA V' T') L' M' = outA Q (deqA k) (deqA v) (cacheA K S) (cacheA V T) L M := by
  subst e0 e1 e2 e3 e4 e5 e6 e7 e8; rfl

/-- The kernel's results, as the reference states them. -/
theorem ker_ref (m : (ℓ : Loc Cert.Kernel.nD Cert.Kernel.τ Cert.Kernel.sig) → Buf (Elt Ideal) ℓ) (g : Dev Cert.Kernel.nD → PrngReg)
    (hk : ∀ c : Dev Cert.Kernel.nD, ∀ (b : Fin 32) (t : Fin 16) (h : Fin 2) (x : Fin 128), FloatOps.absf (F := Ideal) (φ := .bf16) ((m ((c.tc : Thread Cert.Kernel.nD Cert.Kernel.τ).loc Cert.Kernel.main_arg1) : FVec Ideal Cert.Kernel.S32x16x2x128 .bf16) (ix4 b t h x)) ≤ Ideal.ofBits .bf16 0x7F7F#16)
    (hv : ∀ c : Dev Cert.Kernel.nD, ∀ (b : Fin 32) (t : Fin 16) (h : Fin 2) (x : Fin 128), FloatOps.absf (F := Ideal) (φ := .bf16) ((m ((c.tc : Thread Cert.Kernel.nD Cert.Kernel.τ).loc Cert.Kernel.main_arg2) : FVec Ideal Cert.Kernel.S32x16x2x128 .bf16) (ix4 b t h x)) ≤ Ideal.ofBits .bf16 0x7F7F#16) :
    θ_run (Cert.Kernel.defs (F := Ideal)) (onTc (τ := Cert.Kernel.τ) (Cert.Kernel.main (F := Ideal))) ⟨m, fun _ => 0, g⟩ (fun r => ∀ c : Dev Cert.Kernel.nD,
      r.2.mem ((c.tc : Thread Cert.Kernel.nD Cert.Kernel.τ).loc Cert.Kernel.main_v8_0) = outA (m ((c.tc : Thread Cert.Kernel.nD Cert.Kernel.τ).loc Cert.Kernel.main_arg0)) (deqA (m ((c.tc : Thread Cert.Kernel.nD Cert.Kernel.τ).loc Cert.Kernel.main_arg1))) (deqA (m ((c.tc : Thread Cert.Kernel.nD Cert.Kernel.τ).loc Cert.Kernel.main_arg2))) (cacheA (m ((c.tc : Thread Cert.Kernel.nD Cert.Kernel.τ).loc Cert.Kernel.main_arg3)) (m ((c.tc : Thread Cert.Kernel.nD Cert.Kernel.τ).loc Cert.Kernel.main_arg4))) (cacheA (m ((c.tc : Thread Cert.Kernel.nD Cert.Kernel.τ).loc Cert.Kernel.main_arg5)) (m ((c.tc : Thread Cert.Kernel.nD Cert.Kernel.τ).loc Cert.Kernel.main_arg6))) (m ((c.tc : Thread Cert.Kernel.nD Cert.Kernel.τ).loc Cert.Kernel.main_arg7)) (m ((c.tc : Thread Cert.Kernel.nD Cert.Kernel.τ).loc Cert.Kernel.main_arg8))
      ∧ r.2.mem ((c.tc : Thread Cert.Kernel.nD Cert.Kernel.τ).loc Cert.Kernel.main_v9) = codeA (m ((c.tc : Thread Cert.Kernel.nD Cert.Kernel.τ).loc Cert.Kernel.main_arg1))
      ∧ r.2.mem ((c.tc : Thread Cert.Kernel.nD Cert.Kernel.τ).loc Cert.Kernel.main_v12) = scaleA (m ((c.tc : Thread Cert.Kernel.nD Cert.Kernel.τ).loc Cert.Kernel.main_arg1))
      ∧ r.2.mem ((c.tc : Thread Cert.Kernel.nD Cert.Kernel.τ).loc Cert.Kernel.main_v13) = codeA (m ((c.tc : Thread Cert.Kernel.nD Cert.Kernel.τ).loc Cert.Kernel.main_arg2))
      ∧ r.2.mem ((c.tc : Thread Cert.Kernel.nD Cert.Kernel.τ).loc Cert.Kernel.main_v16) = scaleA (m ((c.tc : Thread Cert.Kernel.nD Cert.Kernel.τ).loc Cert.Kernel.main_arg2))
      ∧ r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)) := by
  refine (θ_run Cert.Kernel.defs _ _).mono (fun r h c => ?_) (θ_run_and (ker_val m (Cert.Kernel.ok_all _) g) (args_kept m g (Cert.Kernel.ok_all _)))
  obtain ⟨h0, h1, h2, h3, h4⟩ := h.1 c
  refine ⟨h0.trans (funext fun j => ?_), h1.trans (funext fun j => ?_), h2.trans (funext fun j => ?_), h3.trans (funext fun j => ?_), h4.trans (funext fun j => ?_), h.2.1 c⟩
  · exact kOut_eq (argsOf m c) (hk c) (hv c) (j 0) (j 1) (j 2) (j 3)
  · exact code_eq _ (hk c) j
  · exact scale_eq _ (hk c) j
  · exact code_eq _ (hv c) j
  · exact scale_eq _ (hv c) j

end Cert.Hand

namespace Cert.Proof
open Idealize.ShloMosaic Idealize.ShloMosaic.TcCoe Idealize.SL Idealize.SL.Sem
open Cert.Hand Cert.Kernel.Hand Cert.ReferenceIdeal.Hand

theorem algebraic : algebraic_KernelIdeal_ReferenceIdeal_pre_finite_tokens (hKernelIdeal := Cert.KernelIdeal.Gen.facts) (hReferenceIdeal := Cert.ReferenceIdeal.Gen.facts) (hPre_finite_tokens := Cert.Pre_finite_tokens.Gen.facts) := by
  intro m g m' g' hp ha
  refine ⟨fun c => outA (m ((c.tc : Thread Cert.KernelIdeal.nD Cert.KernelIdeal.τ).loc Cert.KernelIdeal.main_arg0)) (deqA (m ((c.tc : Thread Cert.KernelIdeal.nD Cert.KernelIdeal.τ).loc Cert.KernelIdeal.main_arg1))) (deqA (m ((c.tc : Thread Cert.KernelIdeal.nD Cert.KernelIdeal.τ).loc Cert.KernelIdeal.main_arg2))) (cacheA (m ((c.tc : Thread Cert.KernelIdeal.nD Cert.KernelIdeal.τ).loc Cert.KernelIdeal.main_arg3)) (m ((c.tc : Thread Cert.KernelIdeal.nD Cert.KernelIdeal.τ).loc Cert.KernelIdeal.main_arg4))) (cacheA (m ((c.tc : Thread Cert.KernelIdeal.nD Cert.KernelIdeal.τ).loc Cert.KernelIdeal.main_arg5)) (m ((c.tc : Thread Cert.KernelIdeal.nD Cert.KernelIdeal.τ).loc Cert.KernelIdeal.main_arg6))) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), fun c => codeA (m ((c.tc : Thread Cert.KernelIdeal.nD Cert.KernelIdeal.τ).loc Cert.KernelIdeal.main_arg1)), fun c => scaleA (m ((c.tc : Thread Cert.KernelIdeal.nD Cert.KernelIdeal.τ).loc Cert.KernelIdeal.main_arg1)), fun c => codeA (m ((c.tc : Thread Cert.KernelIdeal.nD Cert.KernelIdeal.τ).loc Cert.KernelIdeal.main_arg2)), fun c => scaleA (m ((c.tc : Thread Cert.KernelIdeal.nD Cert.KernelIdeal.τ).loc Cert.KernelIdeal.main_arg2)), ?_, ?_⟩
  · exact transfer Cert.Kernel.Gen.facts Cert.KernelIdeal.Gen.facts m g _ (ker_ref m g (fun c => pre_fst _ _ _ _ _ _ _ _ _ (hp c).1) (fun c => pre_snd _ _ _ _ _ _ _ _ _ (hp c).2))
  · refine (θ_run Cert.ReferenceIdeal.defs _ _).mono (fun r h c => ?_) (θ_run_and (ref_val m' g') (Cert.ReferenceIdeal.Gen.frame m' g'))
    obtain ⟨h0, h1, h2, h3, h4⟩ := h.1 c
    obtain ⟨a0, a1, a2, a3, a4, a5, a6, a7, a8⟩ := ha c
    refine ⟨h0.trans ?_, h1.trans ?_, h2.trans ?_, h3.trans ?_, h4.trans ?_, h.2.1 c⟩
    · exact out_congr a0 a1 a2 a3 a4 a5 a6 a7 a8
    · exact congrArg codeA a1
    · exact congrArg scaleA a1
    · exact congrArg codeA a2
    · exact congrArg scaleA a2

/-- Everything the certificate claims. -/
theorem claim : Cert.Claim := ⟨Cert.Kernel.Gen.facts, Cert.KernelIdeal.Gen.facts, Cert.ReferenceIdeal.Gen.facts, Cert.Pre_finite_tokens.Gen.facts,
  fun m g _ => args_kept m g (Cert.Kernel.ok_all _),
  fun m g _ => transfer Cert.Kernel.Gen.facts Cert.KernelIdeal.Gen.facts m g _ (args_kept m g (Cert.Kernel.ok_all _)),
  fun m g _ => transfer Cert.Kernel.Gen.facts Cert.KernelIdeal.Gen.facts m g _ (args_kept m g (Cert.Kernel.ok_all _)),
  fun m g _ => Cert.ReferenceIdeal.Gen.frame m g,
  fun m g _ => Cert.ReferenceIdeal.Gen.frame m g,
  trivial, algebraic⟩

end Cert.Proof

end
